-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_inputs_finite [hPre_inputs_finite : Cert.Pre_inputs_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_inputs_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_inputs_finite [hPre_inputs_finite : Cert.Pre_inputs_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_inputs_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_inputs_finite [hKernel4Ideal : Cert.Kernel4Ideal.Facts] [hPre_inputs_finite : Cert.Pre_inputs_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_inputs_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_inputs_finite [hReference4Ideal : Cert.Reference4Ideal.Facts] [hPre_inputs_finite : Cert.Pre_inputs_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_inputs_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def preserves_Kernel_KernelIdeal : Prop :=
  True

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v26_0)) (v1 : (c : Dev Cert.Kernel2Ideal.nD) → Buf (Elt Ideal) ((c.tc : Thread Cert.Kernel2Ideal.nD Cert.Kernel2Ideal.τ).loc Cert.Kernel2Ideal.main_v26_1)) (v2 : (c : Dev Cert.Kernel2Ideal.nD) → Buf (Elt Ideal) ((c.tc : Thread Cert.Kernel2Ideal.nD Cert.Kernel2Ideal.τ).loc Cert.Kernel2Ideal.main_v26_2)) (v3 : (c : Dev Cert.Kernel2Ideal.nD) → Buf (Elt Ideal) ((c.tc : Thread Cert.Kernel2Ideal.nD Cert.Kernel2Ideal.τ).loc Cert.Kernel2Ideal.main_v26_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26_0) = v0 c
          ∧ r.2.mem ((c.tc : Thread Cert.Kernel2Ideal.nD Cert.Kernel2Ideal.τ).loc Cert.Kernel2Ideal.main_v26_1) = v1 c
          ∧ r.2.mem ((c.tc : Thread Cert.Kernel2Ideal.nD Cert.Kernel2Ideal.τ).loc Cert.Kernel2Ideal.main_v26_2) = v2 c
          ∧ r.2.mem ((c.tc : Thread Cert.Kernel2Ideal.nD Cert.Kernel2Ideal.τ).loc Cert.Kernel2Ideal.main_v26_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_v39) = v1 c
          ∧ r.2.mem ((c.tc : Thread Cert.Reference2Ideal.nD Cert.Reference2Ideal.τ).loc Cert.Reference2Ideal.main_v41) = v2 c
          ∧ r.2.mem ((c.tc : Thread Cert.Reference2Ideal.nD Cert.Reference2Ideal.τ).loc Cert.Reference2Ideal.main_v43) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_inputs_finite [hKernel4Ideal : Cert.Kernel4Ideal.Facts] [hReference4Ideal : Cert.Reference4Ideal.Facts] [hPre_inputs_finite : Cert.Pre_inputs_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_inputs_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v56) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hPre_inputs_finite : Cert.Pre_inputs_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_inputs_finite (hKernel4Ideal := hKernel4Ideal) (hPre_inputs_finite := hPre_inputs_finite)
    ∧ quiescent_Reference4Ideal (hReference4Ideal := hReference4Ideal)
    ∧ quiescent_Reference4Ideal_pre_inputs_finite (hReference4Ideal := hReference4Ideal) (hPre_inputs_finite := hPre_inputs_finite)
    ∧ quiescent_Kernel5 (hKernel5 := hKernel5)
    ∧ quiescent_Kernel5Ideal (hKernel5Ideal := hKernel5Ideal)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_inputs_finite (hKernel4Ideal := hKernel4Ideal) (hReference4Ideal := hReference4Ideal) (hPre_inputs_finite := hPre_inputs_finite)
    ∧ preserves_Kernel5_Kernel5Ideal
-- ==== Pre_inputs_finite.lean ====
abbrev S8x4096x1024 : Shape := ⟨3, ![8, 4096, 1024]⟩
abbrev S1024 : Shape := ⟨1, ![1024]⟩
abbrev S8x256x2048 : Shape := ⟨3, ![8, 256, 2048]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bitsLt_bf16_f32 : FTy.bits .bf16 < FTy.bits .f32
  bcast_S_S8x256x2048 : S_.BroadcastsInDim S8x256x2048 (![] : Fin 0 → Fin S8x256x2048.rank)
  reducesTo_S8x256x2048_S_d0_1_2 : S8x256x2048.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v14 : IVec S_ 1) (main_v15 : FVec F S1024x1024 .f32) (main_v16 : FVec F S1024x1024 .f32) : IVec S_ 1 :=
  let main_v17 : IVec S1024x1024 1 := cmpf .olt main_v15 main_v16
  let main_c_5 : IVec S_ 1 := constantI S_ 1 1#1
  let main_v18 : IVec S_ 1 := (fun x v => Host.reduce IntOp.andi x v reducesTo_S1024x1024_S_d0_1 h_S_) main_v17 main_c_5
  let main_v19 : IVec S_ 1 := andi main_v14 main_v18
  main_v19

def fn {F : FTy → Type} [FloatOps F] (main_arg0 : FVec F S8x4096x1024 .f32) (main_arg1 : FVec F S1024 .f32) (main_arg2 : FVec F S8x256x2048 .bf16) (main_arg3 : FVec F S1024x1024 .f32) (main_arg4 : FVec F S1024x1024 .f32) (main_arg5 : FVec F S1024 .f32) (main_arg6 : FVec F S1024x4096 .f32) (main_arg7 : FVec F S4096x1024 .f32) (main_arg8 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S8x256x2048 .f32 := (extf .f32 · bitsLt_bf16_f32) main_arg2
  let main_v10 : FVec F S8x256x2048 .f32 := Host.absf main_v9
  let main_cst_2 : FVec F S_ .f32 := constant S_ .f32 0x7F800000#32
  let main_v11 : FVec F S8x256x2048 .f32 := broadcastInDim S8x256x2048 ![] bcast_S_S8x256x2048 main_cst_2
  let main_v12 : IVec S8x256x2048 1 := cmpf .olt main_v10 main_v11
  let main_c_3 : IVec S_ 1 := constantI S_ 1 1#1
  let main_v13 : IVec S_ 1 := (fun x v => Host.reduce IntOp.andi x v reducesTo_S8x256x2048_S_d0_1_2 h_S_) main_v12 main_c_3
  let main_v14 : IVec S_ 1 := andi main_v8 main_v13
  let main_v15 : FVec F S1024x1024 .f32 := Host.absf main_arg3
  let main_cst_4 : FVec F S_ .f32 := constant S_ .f32 0x7F800000#32
  let main_v16 : FVec F S1024x1024 .f32 := broadcastInDim S1024x1024 ![] bcast_S_S1024x1024 main_cst_4
  fn_part1 (F := F) main_v14 main_v15 main_v16
-- ==== Kernel.lean ====
abbrev S8x4096x1024 : Shape := ⟨3, ![8, 4096, 1024]⟩
abbrev S1024 : Shape := ⟨1, ![1024]⟩
abbrev S8x256x2048 : Shape := ⟨3, ![8, 256, 2048]⟩
abbrev S1024x1024 : Shape := ⟨2, ![1024, 1024]⟩
abbrev S1024x4096 : Shape := ⟨2, ![1024, 4096]⟩
abbrev S4096x1024 : Shape := ⟨2, ![4096, 1024]⟩
abbrev S1x1024 : Shape := ⟨2, ![1, 1024]⟩
abbrev S1x1024x1024 : Shape := ⟨3, ![1, 1024, 1024]⟩
abbrev S1x256x2048 : Shape := ⟨3, ![1, 256, 2048]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 17
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x256x2048, .bf16⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1x1024, .f32⟩
  | .hbm, ⟨10, _⟩ => ⟨S1024x1024, .bf16⟩
  | .hbm, ⟨11, _⟩ => ⟨S1024x1024, .bf16⟩
  | .hbm, ⟨12, _⟩ => ⟨S1x1024, .f32⟩
  | .hbm, ⟨13, _⟩ => ⟨S1024x4096, .bf16⟩
  | .hbm, ⟨14, _⟩ => ⟨S4096x1024, .bf16⟩
  | .hbm, ⟨15, _⟩ => ⟨S1x1024, .f32⟩
  | .hbm, ⟨16, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x256x2048, .bf16⟩
  | .local _ .vmem, ⟨4, _⟩ => ⟨S1x256x2048, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S1x1024x1024, .f32⟩
  | .local _ .vmem, ⟨12, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8x4096x1024 : Shape := ⟨3, ![8, 4096, 1024]⟩
abbrev S1024 : Shape := ⟨1, ![1024]⟩
abbrev S8x256x2048 : Shape := ⟨3, ![8, 256, 2048]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4x256 : Shape := ⟨4, ![8, 4096, 4, 256]⟩
abbrev S8x256x1024 : Shape := ⟨3, ![8, 256, 1024]⟩
abbrev S8x256x4x256 : Shape := ⟨4, ![8, 256, 4, 256]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩
abbrev S8x4096x4096 : Shape := ⟨3, ![8, 4096, 4096]⟩

abbrev nBuf : Space → Nat
  | .hbm => 94
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x256x2048, .bf16⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S8x4096x1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S8x256x2048, .f32⟩
  | .hbm, ⟨26, _⟩ => ⟨S8x4096x1024, .f32⟩
  | .hbm, ⟨27, _⟩ => ⟨S8x4096x4x256, .f32⟩
  | .hbm, ⟨28, _⟩ => ⟨S8x256x1024, .f32⟩
  | .hbm, ⟨29, _⟩ => ⟨S8x256x1024, .f32⟩
  | .hbm, ⟨30, _⟩ => ⟨S8x256x4x256, .f32⟩
  | .hbm, ⟨31, _⟩ => ⟨S8x256x4x256, .f32⟩
  | .hbm, ⟨32, _⟩ => ⟨S8x4x4096x256, .f32⟩
  | .hbm, ⟨33, _⟩ => ⟨S_, .f32⟩
  | .hbm, ⟨34, _⟩ => ⟨S8x4x4096x256, .f32⟩
  | .hbm, ⟨35, _⟩ => ⟨S8x4x4096x256, .f32⟩
  | .hbm, ⟨36, _⟩ => ⟨S_, .f32⟩
  | .hbm, ⟨37, _⟩ => ⟨S8x4x4096, .f32⟩
  | .hbm, ⟨38, _⟩ => ⟨S_, .f32⟩
  | .hbm, ⟨39, _⟩ => ⟨S8x4x4096, .f32⟩
  | .hbm, ⟨40, _⟩ => ⟨S8x4x4096, .f32⟩
  | .hbm, ⟨41, _⟩ => ⟨S8x4x4096x1, .f32⟩
  | .hbm, ⟨42, _⟩ => ⟨S8x4x4096x256, .f32⟩
  | .hbm, ⟨43, _⟩ => ⟨S8x4x4096x256, .f32⟩
  | .hbm, ⟨44, _⟩ => ⟨S8x4x4096x256, .f32⟩
  | .hbm, ⟨45, _⟩ => ⟨S_, .f32⟩
  | .hbm, ⟨46, _⟩ => ⟨S8x4x4096, .f32⟩
  | .hbm, ⟨47, _⟩ => ⟨S8x4x4096x1, .f32⟩
  | .hbm, ⟨48, _⟩ => ⟨S8x4x4096x256, .f32⟩
  | .hbm, ⟨49, _⟩ => ⟨S8x4x4096x256, .f32⟩
  | .hbm, ⟨50, _⟩ => ⟨S8x4x256x4096, .f32⟩
  | .hbm, ⟨51, _⟩ => ⟨S8x4096x4x256, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S_, .f32⟩
  | .hbm, ⟨57, _⟩ => ⟨S8x4096, .f32⟩
  | .hbm, ⟨58, _⟩ => ⟨S8x4096x1, .f32⟩
  | .hbm, ⟨59, _⟩ => ⟨S_, .f32⟩
  | .hbm, ⟨60, _⟩ => ⟨S8x4096x1, .f32⟩
  | .hbm, ⟨61, _⟩ => ⟨S8x4096x1, .f32⟩
  | .hbm, ⟨62, _⟩ => ⟨S_, .f32⟩
  | .hbm, ⟨63, _⟩ => ⟨S8x4096x1, .f32⟩
  | .hbm, ⟨64, _⟩ => ⟨S8x4096x1, .f32⟩
  | .hbm, ⟨65, _⟩ => ⟨S8x4096x1, .f32⟩
  | .hbm, ⟨66, _⟩ => ⟨S8x4096x1024, .f32⟩
  | .hbm, ⟨67, _⟩ => ⟨S8x4096x1024, .f32⟩
  | .hbm, ⟨68, _⟩ => ⟨S1x1x1024, .f32⟩
  | .hbm, ⟨69, _⟩ => ⟨S8x4096x1024, .f32⟩
  | .hbm, ⟨70, _⟩ => ⟨S8x4096x1024, .f32⟩
  | .hbm, ⟨71, _⟩ => ⟨S8x4096x4096, .f32⟩
  | .hbm, ⟨72, _⟩ => ⟨S_, .f32⟩
  | .hbm, ⟨73, _⟩ => ⟨S8x4096x4096, .f32⟩
  | .hbm, ⟨74, _⟩ => ⟨S8x4096x4096, .f32⟩
  | .hbm, ⟨75, _⟩ => ⟨S8x4096x4096, .f32⟩
  | .hbm, ⟨76, _⟩ => ⟨S8x4096x1024, .f32⟩
  | .hbm, ⟨77, _⟩ => ⟨S8x4096x1024, .f32⟩
  | .hbm, ⟨78, _⟩ => ⟨S8x4096x1024, .f32⟩
  | .hbm, ⟨79, _⟩ => ⟨S_, .f32⟩
  | .hbm, ⟨80, _⟩ => ⟨S8x4096, .f32⟩
  | .hbm, ⟨81, _⟩ => ⟨S8x4096x1, .f32⟩
  | .hbm, ⟨82, _⟩ => ⟨S_, .f32⟩
  | .hbm, ⟨83, _⟩ => ⟨S8x4096x1, .f32⟩
  | .hbm, ⟨84, _⟩ => ⟨S8x4096x1, .f32⟩
  | .hbm, ⟨85, _⟩ => ⟨S_, .f32⟩
  | .hbm, ⟨86, _⟩ => ⟨S8x4096x1, .f32⟩
  | .hbm, ⟨87, _⟩ => ⟨S8x4096x1, .f32⟩
  | .hbm, ⟨88, _⟩ => ⟨S8x4096x1, .f32⟩
  | .hbm, ⟨89, _⟩ => ⟨S8x4096x1024, .f32⟩
  | .hbm, ⟨90, _⟩ => ⟨S8x4096x1024, .f32⟩
  | .hbm, ⟨91, _⟩ => ⟨S1x1x1024, .f32⟩
  | .hbm, ⟨92, _⟩ => ⟨S8x4096x1024, .f32⟩
  | .hbm, ⟨93, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_call0_cst : Ref sig .tc := ⟨.hbm, 72, rfl⟩
abbrev main_call0_v0 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024 : Shape := ⟨1, ![1024]⟩
abbrev S1024x7192 : Shape := ⟨2, ![1024, 7192]⟩
abbrev S1024x256 : Shape := ⟨2, ![1024, 256]⟩
abbrev S1024x4 : Shape := ⟨2, ![1024, 4]⟩
abbrev S1024x128 : Shape := ⟨2, ![1024, 128]⟩
abbrev S1024x16 : Shape := ⟨2, ![1024, 16]⟩
abbrev S1024x4096 : Shape := ⟨2, ![1024, 4096]⟩
abbrev S1024x4x64 : Shape := ⟨3, ![1024, 4, 64]⟩
abbrev S_ : Shape := ⟨0, ![]⟩
abbrev S1024x3712 : Shape := ⟨2, ![1024, 3712]⟩
abbrev S32768x1024 : Shape := ⟨2, ![32768, 1024]⟩
abbrev S1x1024 : Shape := ⟨2, ![1, 1024]⟩
abbrev S32768x1536 : Shape := ⟨2, ![32768, 1536]⟩
abbrev S32768x896 : Shape := ⟨2, ![32768, 896]⟩
abbrev S4096x2048 : Shape := ⟨2, ![4096, 2048]⟩
abbrev S512x1024 : Shape := ⟨2, ![512, 1024]⟩
abbrev S512x1536 : Shape := ⟨2, ![512, 1536]⟩
abbrev S512x896 : Shape := ⟨2, ![512, 896]⟩
abbrev S512x256 : Shape := ⟨2, ![512, 256]⟩
abbrev S512 : Shape := ⟨1, ![512]⟩
abbrev S512x1 : Shape := ⟨2, ![512, 1]⟩
abbrev S1024x1536 : Shape := ⟨2, ![1024, 1536]⟩
abbrev S1024x896 : Shape := ⟨2, ![1024, 896]⟩
abbrev S1024x1024 : Shape := ⟨2, ![1024, 1024]⟩

abbrev nBuf : Space → Nat
  | .hbm => 35
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x7192, .f32⟩
  | .hbm, ⟨3, _⟩ => ⟨S1024x7192, .bf16⟩
  | .hbm, ⟨4, _⟩ => ⟨S1024x256, .bf16⟩
  | .hbm, ⟨5, _⟩ => ⟨S1024x256, .bf16⟩
  | .hbm, ⟨6, _⟩ => ⟨S1024x256, .bf16⟩
  | .hbm, ⟨7, _⟩ => ⟨S1024x4, .bf16⟩
  | .hbm, ⟨8, _⟩ => ⟨S1024x4, .bf16⟩
  | .hbm, ⟨9, _⟩ => ⟨S1024x256, .bf16⟩
  | .hbm, ⟨10, _⟩ => ⟨S1024x128, .bf16⟩
  | .hbm, ⟨11, _⟩ => ⟨S1024x128, .bf16⟩
  | .hbm, ⟨12, _⟩ => ⟨S1024x256, .bf16⟩
  | .hbm, ⟨13, _⟩ => ⟨S1024x16, .bf16⟩
  | .hbm, ⟨14, _⟩ => ⟨S1024x256, .bf16⟩
  | .hbm, ⟨15, _⟩ => ⟨S1024x256, .bf16⟩
  | .hbm, ⟨16, _⟩ => ⟨S1024x256, .bf16⟩
  | .hbm, ⟨17, _⟩ => ⟨S1024x256, .bf16⟩
  | .hbm, ⟨18, _⟩ => ⟨S1024x256, .bf16⟩
  | .hbm, ⟨19, _⟩ => ⟨S1024x256, .bf16⟩
  | .hbm, ⟨20, _⟩ => ⟨S1024x4096, .bf16⟩
  | .hbm, ⟨21, _⟩ => ⟨S1024x4x64, .bf16⟩
  | .hbm, ⟨22, _⟩ => ⟨S1024x256, .bf16⟩
  | .hbm, ⟨23, _⟩ => ⟨S1024x4x64, .bf16⟩
  | .hbm, ⟨24, _⟩ => ⟨S1024x256, .bf16⟩
  | .hbm, ⟨25, _⟩ => ⟨S_, .i32⟩
  | .hbm, ⟨26, _⟩ => ⟨S_, .bf16⟩
  | .hbm, ⟨27, _⟩ => ⟨S1024x128, .bf16⟩
  | .hbm, ⟨28, _⟩ => ⟨S1024x3712, .bf16⟩
  | .hbm, ⟨29, _⟩ => ⟨S32768x1024, .f32⟩
  | .hbm, ⟨30, _⟩ => ⟨S1x1024, .f32⟩
  | .hbm, ⟨31, _⟩ => ⟨S32768x1536, .f32⟩
  | .hbm, ⟨32, _⟩ => ⟨S32768x896, .f32⟩
  | .hbm, ⟨33, _⟩ => ⟨S4096x2048, .f32⟩
  | .hbm, ⟨34, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3712, .bf16⟩
  | .local _ .vmem, ⟨4, _⟩ => ⟨S512x1536, .f32⟩
  | .local _ .vmem, ⟨5, _⟩ => ⟨S512x1536, .f32⟩
  | .local _ .vmem, ⟨6, _⟩ => ⟨S512x896, .f32⟩
  | .local _ .vmem, ⟨7, _⟩ => ⟨S512x896, .f32⟩
  | .local _ .vmem, ⟨8, _⟩ => ⟨S512x256, .f32⟩
  | .local _ .vmem, ⟨9, _⟩ => ⟨S512x256, .f32⟩
  | .local _ .vmem, ⟨10, _⟩ => ⟨S512x1024, .f32⟩
  | .local _ .vmem, ⟨11, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_c : Ref sig .tc := ⟨.hbm, 25, rfl⟩
abbrev main_call0_v0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26_0 : Ref sig .tc := ⟨.hbm, 31, rfl⟩
abbrev main_v26_1 : Ref sig .tc := ⟨.hbm, 32, rfl⟩
abbrev main_v26_2 : Ref sig .tc := ⟨.hbm, 33, rfl⟩
abbrev main_v26_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg0 c8_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg0 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8x4096x1024 : Shape := ⟨3, ![8, 4096, 1024]⟩
abbrev S1024 : Shape := ⟨1, ![1024]⟩
abbrev S1024x7192 : Shape := ⟨2, ![1024, 7192]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x7192 : Shape := ⟨3, ![8, 4096, 7192]⟩
abbrev S8x4096x256 : Shape := ⟨3, ![8, 4096, 256]⟩
abbrev S8x4096x4 : Shape := ⟨3, ![8, 4096, 4]⟩
abbrev S8x4096x128 : Shape := ⟨3, ![8, 4096, 128]⟩
abbrev S8x4096x16 : Shape := ⟨3, ![8, 4096, 16]⟩
abbrev S8x4096x4096 : Shape := ⟨3, ![8, 4096, 4096]⟩
abbrev S8x4096x4x64 : Shape := ⟨4, ![8, 4096, 4, 64]⟩
abbrev S8x4096x1536 : Shape := ⟨3, ![8, 4096, 1536]⟩
abbrev S32768x1536 : Shape := ⟨2, ![32768, 1536]⟩
abbrev S8x4096x896 : Shape := ⟨3, ![8, 4096, 896]⟩
abbrev S32768x896 : Shape := ⟨2, ![32768, 896]⟩
abbrev S4096x8x256 : Shape := ⟨3, ![4096, 8, 256]⟩
abbrev S4096x2048 : Shape := ⟨2, ![4096, 2048]⟩
abbrev S32768x1024 : Shape := ⟨2, ![32768, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x7192, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x7192, .f32⟩
  | .hbm, ⟨20, _⟩ => ⟨S8x4096x256, .f32⟩
  | .hbm, ⟨21, _⟩ => ⟨S8x4096x256, .f32⟩
  | .hbm, ⟨22, _⟩ => ⟨S8x4096x256, .f32⟩
  | .hbm, ⟨23, _⟩ => ⟨S8x4096x4, .f32⟩
  | .hbm, ⟨24, _⟩ => ⟨S8x4096x4, .f32⟩
  | .hbm, ⟨25, _⟩ => ⟨S8x4096x256, .f32⟩
  | .hbm, ⟨26, _⟩ => ⟨S8x4096x128, .f32⟩
  | .hbm, ⟨27, _⟩ => ⟨S8x4096x128, .f32⟩
  | .hbm, ⟨28, _⟩ => ⟨S8x4096x256, .f32⟩
  | .hbm, ⟨29, _⟩ => ⟨S8x4096x16, .f32⟩
  | .hbm, ⟨30, _⟩ => ⟨S8x4096x256, .f32⟩
  | .hbm, ⟨31, _⟩ => ⟨S8x4096x256, .f32⟩
  | .hbm, ⟨32, _⟩ => ⟨S8x4096x256, .f32⟩
  | .hbm, ⟨33, _⟩ => ⟨S8x4096x256, .f32⟩
  | .hbm, ⟨34, _⟩ => ⟨S8x4096x256, .f32⟩
  | .hbm, ⟨35, _⟩ => ⟨S8x4096x256, .f32⟩
  | .hbm, ⟨36, _⟩ => ⟨S8x4096x4096, .f32⟩
  | .hbm, ⟨37, _⟩ => ⟨S_, .i32⟩
  | .hbm, ⟨38, _⟩ => ⟨S_, .f32⟩
  | .hbm, ⟨39, _⟩ => ⟨S8x4096x128, .f32⟩
  | .hbm, ⟨40, _⟩ => ⟨S8x4096x4x64, .f32⟩
  | .hbm, ⟨41, _⟩ => ⟨S8x4096x256, .f32⟩
  | .hbm, ⟨42, _⟩ => ⟨S8x4096x4x64, .f32⟩
  | .hbm, ⟨43, _⟩ => ⟨S8x4096x256, .f32⟩
  | .hbm, ⟨44, _⟩ => ⟨S8x4096x1536, .f32⟩
  | .hbm, ⟨45, _⟩ => ⟨S32768x1536, .f32⟩
  | .hbm, ⟨46, _⟩ => ⟨S8x4096x896, .f32⟩
  | .hbm, ⟨47, _⟩ => ⟨S32768x896, .f32⟩
  | .hbm, ⟨48, _⟩ => ⟨S4096x8x256, .f32⟩
  | .hbm, ⟨49, _⟩ => ⟨S4096x2048, .f32⟩
  | .hbm, ⟨50, _⟩ => ⟨S8x4096x1024, .f32⟩
  | .hbm, ⟨51, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_c : Ref sig .tc := ⟨.hbm, 37, rfl⟩
abbrev main_call0_v0 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩

abbrev nD : Nat := 1
abbrev τ : Topo := Topo.v7x

variable {F : FTy → Type} [FloatOps F]
-- ==== Kernel3.lean ====
abbrev S8x256x1024 : Shape := ⟨3, ![8, 256, 1024]⟩
abbrev S1024 : Shape := ⟨1, ![1024]⟩
abbrev S1024x2048 : Shape := ⟨2, ![1024, 2048]⟩
abbrev S2048x1024 : Shape := ⟨2, ![2048, 1024]⟩
abbrev S1x1024 : Shape := ⟨2, ![1, 1024]⟩
abbrev S2048x2048 : Shape := ⟨2, ![2048, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 6
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x2048, .f32⟩
  | .hbm, ⟨3, _⟩ => ⟨S2048x1024, .f32⟩
  | .hbm, ⟨4, _⟩ => ⟨S1x1024, .f32⟩
  | .hbm, ⟨5, _⟩ => ⟨S1024x2048, .bf16⟩
  | .hbm, ⟨6, _⟩ => ⟨S2048x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x2048, .bf16⟩
  | .local _ .vmem, ⟨5, _⟩ => ⟨S512x2048, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8x256x1024 : Shape := ⟨3, ![8, 256, 1024]⟩
abbrev S1024 : Shape := ⟨1, ![1024]⟩
abbrev S1024x2048 : Shape := ⟨2, ![1024, 2048]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x2048 : Shape := ⟨3, ![8, 256, 2048]⟩
abbrev S2048x2048 : Shape := ⟨2, ![2048, 2048]⟩

abbrev nBuf : Space → Nat
  | .hbm => 22
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x2048, .f32⟩
  | .hbm, ⟨3, _⟩ => ⟨S8x256x1024, .f32⟩
  | .hbm, ⟨4, _⟩ => ⟨S_, .f32⟩
  | .hbm, ⟨5, _⟩ => ⟨S8x256, .f32⟩
  | .hbm, ⟨6, _⟩ => ⟨S8x256x1, .f32⟩
  | .hbm, ⟨7, _⟩ => ⟨S_, .f32⟩
  | .hbm, ⟨8, _⟩ => ⟨S8x256x1, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S8x256x1, .f32⟩
  | .hbm, ⟨14, _⟩ => ⟨S8x256x1024, .f32⟩
  | .hbm, ⟨15, _⟩ => ⟨S8x256x1024, .f32⟩
  | .hbm, ⟨16, _⟩ => ⟨S1x1x1024, .f32⟩
  | .hbm, ⟨17, _⟩ => ⟨S8x256x1024, .f32⟩
  | .hbm, ⟨18, _⟩ => ⟨S8x256x1024, .f32⟩
  | .hbm, ⟨19, _⟩ => ⟨S8x256x2048, .f32⟩
  | .hbm, ⟨20, _⟩ => ⟨S2048x2048, .f32⟩
  | .hbm, ⟨21, _⟩ => ⟨S2048x2048, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel4.lean ====
abbrev S8x4096x1024 : Shape := ⟨3, ![8, 4096, 1024]⟩
abbrev S1024 : Shape := ⟨1, ![1024]⟩
abbrev S8x256x2048 : Shape := ⟨3, ![8, 256, 2048]⟩
abbrev S1024x1024 : Shape := ⟨2, ![1024, 1024]⟩
abbrev S1024x4096 : Shape := ⟨2, ![1024, 4096]⟩
abbrev S4096x1024 : Shape := ⟨2, ![4096, 1024]⟩
abbrev S1x1024 : Shape := ⟨2, ![1, 1024]⟩
abbrev S1x1024x1024 : Shape := ⟨3, ![1, 1024, 1024]⟩
abbrev S1x256x2048 : Shape := ⟨3, ![1, 256, 2048]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 17
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x256x2048, .bf16⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1x1024, .f32⟩
  | .hbm, ⟨10, _⟩ => ⟨S1024x1024, .bf16⟩
  | .hbm, ⟨11, _⟩ => ⟨S1024x1024, .bf16⟩
  | .hbm, ⟨12, _⟩ => ⟨S1x1024, .f32⟩
  | .hbm, ⟨13, _⟩ => ⟨S1024x4096, .bf16⟩
  | .hbm, ⟨14, _⟩ => ⟨S4096x1024, .bf16⟩
  | .hbm, ⟨15, _⟩ => ⟨S1x1024, .f32⟩
  | .hbm, ⟨16, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x256x2048, .bf16⟩
  | .local _ .vmem, ⟨4, _⟩ => ⟨S1x256x2048, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S1x1024x1024, .f32⟩
  | .local _ .vmem, ⟨12, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S8x4096x1024 : Shape := ⟨3, ![8, 4096, 1024]⟩
abbrev S1024 : Shape := ⟨1, ![1024]⟩
abbrev S8x256x2048 : Shape := ⟨3, ![8, 256, 2048]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4x256 : Shape := ⟨4, ![8, 4096, 4, 256]⟩
abbrev S8x256x1024 : Shape := ⟨3, ![8, 256, 1024]⟩
abbrev S8x256x4x256 : Shape := ⟨4, ![8, 256, 4, 256]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩
abbrev S8x4096x4096 : Shape := ⟨3, ![8, 4096, 4096]⟩

abbrev nBuf : Space → Nat
  | .hbm => 78
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x256x2048, .bf16⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S8x4096x1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S8x256x2048, .f32⟩
  | .hbm, ⟨26, _⟩ => ⟨S8x4096x1024, .f32⟩
  | .hbm, ⟨27, _⟩ => ⟨S8x4096x4x256, .f32⟩
  | .hbm, ⟨28, _⟩ => ⟨S8x256x1024, .f32⟩
  | .hbm, ⟨29, _⟩ => ⟨S8x256x1024, .f32⟩
  | .hbm, ⟨30, _⟩ => ⟨S8x256x4x256, .f32⟩
  | .hbm, ⟨31, _⟩ => ⟨S8x256x4x256, .f32⟩
  | .hbm, ⟨32, _⟩ => ⟨S8x4x4096x256, .f32⟩
  | .hbm, ⟨33, _⟩ => ⟨S_, .f32⟩
  | .hbm, ⟨34, _⟩ => ⟨S8x4x4096x256, .f32⟩
  | .hbm, ⟨35, _⟩ => ⟨S8x4x4096x256, .f32⟩
  | .hbm, ⟨36, _⟩ => ⟨S_, .f32⟩
  | .hbm, ⟨37, _⟩ => ⟨S8x4x4096, .f32⟩
  | .hbm, ⟨38, _⟩ => ⟨S_, .f32⟩
  | .hbm, ⟨39, _⟩ => ⟨S8x4x4096, .f32⟩
  | .hbm, ⟨40, _⟩ => ⟨S8x4x4096, .f32⟩
  | .hbm, ⟨41, _⟩ => ⟨S8x4x4096x1, .f32⟩
  | .hbm, ⟨42, _⟩ => ⟨S8x4x4096x256, .f32⟩
  | .hbm, ⟨43, _⟩ => ⟨S8x4x4096x256, .f32⟩
  | .hbm, ⟨44, _⟩ => ⟨S8x4x4096x256, .f32⟩
  | .hbm, ⟨45, _⟩ => ⟨S_, .f32⟩
  | .hbm, ⟨46, _⟩ => ⟨S8x4x4096, .f32⟩
  | .hbm, ⟨47, _⟩ => ⟨S8x4x4096x1, .f32⟩
  | .hbm, ⟨48, _⟩ => ⟨S8x4x4096x256, .f32⟩
  | .hbm, ⟨49, _⟩ => ⟨S8x4x4096x256, .f32⟩
  | .hbm, ⟨50, _⟩ => ⟨S8x4x256x4096, .f32⟩
  | .hbm, ⟨51, _⟩ => ⟨S8x4096x4x256, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S_, .f32⟩
  | .hbm, ⟨57, _⟩ => ⟨S8x4096, .f32⟩
  | .hbm, ⟨58, _⟩ => ⟨S8x4096x1, .f32⟩
  | .hbm, ⟨59, _⟩ => ⟨S_, .f32⟩
  | .hbm, ⟨60, _⟩ => ⟨S8x4096x1, .f32⟩
  | .hbm, ⟨61, _⟩ => ⟨S8x4096x1, .f32⟩
  | .hbm, ⟨62, _⟩ => ⟨S_, .f32⟩
  | .hbm, ⟨63, _⟩ => ⟨S8x4096x1, .f32⟩
  | .hbm, ⟨64, _⟩ => ⟨S8x4096x1, .f32⟩
  | .hbm, ⟨65, _⟩ => ⟨S8x4096x1, .f32⟩
  | .hbm, ⟨66, _⟩ => ⟨S8x4096x1024, .f32⟩
  | .hbm, ⟨67, _⟩ => ⟨S8x4096x1024, .f32⟩
  | .hbm, ⟨68, _⟩ => ⟨S1x1x1024, .f32⟩
  | .hbm, ⟨69, _⟩ => ⟨S8x4096x1024, .f32⟩
  | .hbm, ⟨70, _⟩ => ⟨S8x4096x1024, .f32⟩
  | .hbm, ⟨71, _⟩ => ⟨S8x4096x4096, .f32⟩
  | .hbm, ⟨72, _⟩ => ⟨S_, .f32⟩
  | .hbm, ⟨73, _⟩ => ⟨S8x4096x4096, .f32⟩
  | .hbm, ⟨74, _⟩ => ⟨S8x4096x4096, .f32⟩
  | .hbm, ⟨75, _⟩ => ⟨S8x4096x4096, .f32⟩
  | .hbm, ⟨76, _⟩ => ⟨S8x4096x1024, .f32⟩
  | .hbm, ⟨77, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_call0_cst : Ref sig .tc := ⟨.hbm, 72, rfl⟩
abbrev main_call0_v0 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== Kernel5.lean ====
abbrev S4096x8x256 : Shape := ⟨3, ![4096, 8, 256]⟩
abbrev S16x64 : Shape := ⟨2, ![16, 64]⟩
abbrev S16x64x16 : Shape := ⟨3, ![16, 64, 16]⟩
abbrev S16x16x64 : Shape := ⟨3, ![16, 16, 64]⟩
abbrev S16x16 : Shape := ⟨2, ![16, 16]⟩
abbrev S16 : Shape := ⟨1, ![16]⟩
abbrev S256x512 : Shape := ⟨2, ![256, 512]⟩
abbrev S512 : Shape := ⟨1, ![512]⟩
abbrev S16x1 : Shape := ⟨2, ![16, 1]⟩
abbrev S_ : Shape := ⟨0, ![]⟩
abbrev S16x64x1 : Shape := ⟨3, ![16, 64, 1]⟩
abbrev S1x1024 : Shape := ⟨2, ![1, 1024]⟩
abbrev S1x2048 : Shape := ⟨2, ![1, 2048]⟩
abbrev S16x16x1x64 : Shape := ⟨4, ![16, 16, 1, 64]⟩
abbrev S16x1x16x1 : Shape := ⟨4, ![16, 1, 16, 1]⟩
abbrev S16x16x16x64 : Shape := ⟨4, ![16, 16, 16, 64]⟩
abbrev S256x1024 : Shape := ⟨2, ![256, 1024]⟩
abbrev S256x2048 : Shape := ⟨2, ![256, 2048]⟩
abbrev S16x64x1x16 : Shape := ⟨4, ![16, 64, 1, 16]⟩
abbrev S16x64x16x16 : Shape := ⟨4, ![16, 64, 16, 16]⟩
abbrev S1024x256 : Shape := ⟨2, ![1024, 256]⟩
abbrev S2048x256 : Shape := ⟨2, ![2048, 256]⟩
abbrev S1x256 : Shape := ⟨2, ![1, 256]⟩
abbrev S1x512 : Shape := ⟨2, ![1, 512]⟩
abbrev S64x8x256 : Shape := ⟨3, ![64, 8, 256]⟩
abbrev S512x2048 : Shape := ⟨2, ![512, 2048]⟩
abbrev S8x2048 : Shape := ⟨2, ![8, 2048]⟩
abbrev S512x256 : Shape := ⟨2, ![512, 256]⟩
abbrev S128x256 : Shape := ⟨2, ![128, 256]⟩
abbrev S128x2048 : Shape := ⟨2, ![128, 2048]⟩
abbrev S8x512 : Shape := ⟨2, ![8, 512]⟩
abbrev S128x512 : Shape := ⟨2, ![128, 512]⟩
abbrev S16x8x256 : Shape := ⟨3, ![16, 8, 256]⟩

abbrev nBuf : Space → Nat
  | .hbm => 105
  | .vmem => 12
  | .smem => 0
  | _ => 0

abbrev bufTy : (tb : Table) → Fin (tcTables nBuf tb) → BufTy
  | .hbm, ⟨0, _⟩ => ⟨S4096x8x256, .f32⟩
  | .hbm, ⟨1, _⟩ => ⟨S16x64, .f32⟩
  | .hbm, ⟨2, _⟩ => ⟨S16x64, .f32⟩
  | .hbm, ⟨3, _⟩ => ⟨S16x64x16, .f32⟩
  | .hbm, ⟨4, _⟩ => ⟨S16x64x16, .f32⟩
  | .hbm, ⟨5, _⟩ => ⟨S16x16x64, .f32⟩
  | .hbm, ⟨6, _⟩ => ⟨S16x16x64, .f32⟩
  | .hbm, ⟨7, _⟩ => ⟨S16x16, .f32⟩
  | .hbm, ⟨8, _⟩ => ⟨S16, .f32⟩
  | .hbm, ⟨9, _⟩ => ⟨S256x512, .f32⟩
  | .hbm, ⟨10, _⟩ => ⟨S512, .f32⟩
  | .hbm, ⟨11, _⟩ => ⟨S16, .f32⟩
  | .hbm, ⟨12, _⟩ => ⟨S16x1, .f32⟩
  | .hbm, ⟨13, _⟩ => ⟨S16x64, .f32⟩
  | .hbm, ⟨14, _⟩ => ⟨S16x64, .f32⟩
  | .hbm, ⟨15, _⟩ => ⟨S16x64, .f32⟩
  | .hbm, ⟨16, _⟩ => ⟨S16x64, .f32⟩
  | .hbm, ⟨17, _⟩ => ⟨S16x64, .f32⟩
  | .hbm, ⟨18, _⟩ => ⟨S16x64, .f32⟩
  | .hbm, ⟨19, _⟩ => ⟨S16x64, .f32⟩
  | .hbm, ⟨20, _⟩ => ⟨S16x64, .f32⟩
  | .hbm, ⟨21, _⟩ => ⟨S16x64, .f32⟩
  | .hbm, ⟨22, _⟩ => ⟨S16x64, .f32⟩
  | .hbm, ⟨23, _⟩ => ⟨S16x64, .f32⟩
  | .hbm, ⟨24, _⟩ => ⟨S16x64, .f32⟩
  | .hbm, ⟨25, _⟩ => ⟨S16x64, .f32⟩
  | .hbm, ⟨26, _⟩ => ⟨S16x64, .f32⟩
  | .hbm, ⟨27, _⟩ => ⟨S_, .f32⟩
  | .hbm, ⟨28, _⟩ => ⟨S16x64, .f32⟩
  | .hbm, ⟨29, _⟩ => ⟨S16x64, .f32⟩
  | .hbm, ⟨30, _⟩ => ⟨S_, .f32⟩
  | .hbm, ⟨31, _⟩ => ⟨S16x64, .f32⟩
  | .hbm, ⟨32, _⟩ => ⟨S16x64, .f32⟩
  | .hbm, ⟨33, _⟩ => ⟨S16x64, .f32⟩
  | .hbm, ⟨34, _⟩ => ⟨S16x64, .f32⟩
  | .hbm, ⟨35, _⟩ => ⟨S16x64, .f32⟩
  | .hbm, ⟨36, _⟩ => ⟨S16x64, .f32⟩
  | .hbm, ⟨37, _⟩ => ⟨S16x64, .f32⟩
  | .hbm, ⟨38, _⟩ => ⟨S_, .f32⟩
  | .hbm, ⟨39, _⟩ => ⟨S16x64, .f32⟩
  | .hbm, ⟨40, _⟩ => ⟨S16x64, .f32⟩
  | .hbm, ⟨41, _⟩ => ⟨S16x64, .f32⟩
  | .hbm, ⟨42, _⟩ => ⟨S16x64, .f32⟩
  | .hbm, ⟨43, _⟩ => ⟨S16x64, .f32⟩
  | .hbm, ⟨44, _⟩ => ⟨S16x64x1, .f32⟩
  | .hbm, ⟨45, _⟩ => ⟨S16x64x16, .f32⟩
  | .hbm, ⟨46, _⟩ => ⟨S16x64x16, .f32⟩
  | .hbm, ⟨47, _⟩ => ⟨S16x64x1, .f32⟩
  | .hbm, ⟨48, _⟩ => ⟨S16x64x16, .f32⟩
  | .hbm, ⟨49, _⟩ => ⟨S16x64x16, .f32⟩
  | .hbm, ⟨50, _⟩ => ⟨S16x64x16, .f32⟩
  | .hbm, ⟨51, _⟩ => ⟨S16x64x1, .f32⟩
  | .hbm, ⟨52, _⟩ => ⟨S16x64x16, .f32⟩
  | .hbm, ⟨53, _⟩ => ⟨S16x64x16, .f32⟩
  | .hbm, ⟨54, _⟩ => ⟨S16x64x1, .f32⟩
  | .hbm, ⟨55, _⟩ => ⟨S16x64x16, .f32⟩
  | .hbm, ⟨56, _⟩ => ⟨S16x64x16, .f32⟩
  | .hbm, ⟨57, _⟩ => ⟨S16x64x16, .f32⟩
  | .hbm, ⟨58, _⟩ => ⟨S16x16, .i32⟩
  | .hbm, ⟨59, _⟩ => ⟨S16x16, .i32⟩
  | .hbm, ⟨60, _⟩ => ⟨S_, .i32⟩
  | .hbm, ⟨61, _⟩ => ⟨S16x16, .i32⟩
  | .hbm, ⟨62, _⟩ => ⟨S16x16, .i32⟩
  | .hbm, ⟨63, _⟩ => ⟨S16x16, .i1⟩
  | .hbm, ⟨64, _⟩ => ⟨S16x16, .f32⟩
  | .hbm, ⟨65, _⟩ => ⟨S1x1024, .f32⟩
  | .hbm, ⟨66, _⟩ => ⟨S1x1024, .f32⟩
  | .hbm, ⟨67, _⟩ => ⟨S1x2048, .f32⟩
  | .hbm, ⟨68, _⟩ => ⟨S16x16x64, .f32⟩
  | .hbm, ⟨69, _⟩ => ⟨S16x16x1x64, .f32⟩
  | .hbm, ⟨70, _⟩ => ⟨S16x1x16x1, .f32⟩
  | .hbm, ⟨71, _⟩ => ⟨S16x16x16x64, .f32⟩
  | .hbm, ⟨72, _⟩ => ⟨S16x16x16x64, .f32⟩
  | .hbm, ⟨73, _⟩ => ⟨S16x16x16x64, .f32⟩
  | .hbm, ⟨74, _⟩ => ⟨S256x1024, .f32⟩
  | .hbm, ⟨75, _⟩ => ⟨S16x16x64, .f32⟩
  | .hbm, ⟨76, _⟩ => ⟨S16x16x1x64, .f32⟩
  | .hbm, ⟨77, _⟩ => ⟨S16x1x16x1, .f32⟩
  | .hbm, ⟨78, _⟩ => ⟨S16x16x16x64, .f32⟩
  | .hbm, ⟨79, _⟩ => ⟨S16x16x16x64, .f32⟩
  | .hbm, ⟨80, _⟩ => ⟨S16x16x16x64, .f32⟩
  | .hbm, ⟨81, _⟩ => ⟨S256x1024, .f32⟩
  | .hbm, ⟨82, _⟩ => ⟨S256x2048, .f32⟩
  | .hbm, ⟨83, _⟩ => ⟨S16x64x16, .f32⟩
  | .hbm, ⟨84, _⟩ => ⟨S16x64x1x16, .f32⟩
  | .hbm, ⟨85, _⟩ => ⟨S16x1x16x1, .f32⟩
  | .hbm, ⟨86, _⟩ => ⟨S16x64x16x16, .f32⟩
  | .hbm, ⟨87, _⟩ => ⟨S16x64x16x16, .f32⟩
  | .hbm, ⟨88, _⟩ => ⟨S16x64x16x16, .f32⟩
  | .hbm, ⟨89, _⟩ => ⟨S1024x256, .f32⟩
  | .hbm, ⟨90, _⟩ => ⟨S16x64x16, .f32⟩
  | .hbm, ⟨91, _⟩ => ⟨S16x64x1x16, .f32⟩
  | .hbm, ⟨92, _⟩ => ⟨S16x1x16x1, .f32⟩
  | .hbm, ⟨93, _⟩ => ⟨S16x64x16x16, .f32⟩
  | .hbm, ⟨94, _⟩ => ⟨S16x64x16x16, .f32⟩
  | .hbm, ⟨95, _⟩ => ⟨S16x64x16x16, .f32⟩
  | .hbm, ⟨96, _⟩ => ⟨S1024x256, .f32⟩
  | .hbm, ⟨97, _⟩ => ⟨S1024x256, .f32⟩
  | .hbm, ⟨98, _⟩ => ⟨S2048x256, .f32⟩
  | .hbm, ⟨99, _⟩ => ⟨S256x2048, .bf16⟩
  | .hbm, ⟨100, _⟩ => ⟨S2048x256, .bf16⟩
  | .hbm, ⟨101, _⟩ => ⟨S1x256, .f32⟩
  | .hbm, ⟨102, _⟩ => ⟨S256x512, .bf16⟩
  | .hbm, ⟨103, _⟩ => ⟨S1x512, .f32⟩
  | .hbm, ⟨104, _⟩ => ⟨S4096x8x256, .f32⟩
  | .local _ .vmem, ⟨0, _⟩ => ⟨S64x8x256, .f32⟩
  | .local _ .vmem, ⟨1, _⟩ => ⟨S64x8x256, .f32⟩
  | .local _ .vmem, ⟨2, _⟩ => ⟨S1x2048, .f32⟩
  | .local _ .vmem, ⟨3, _⟩ => ⟨S256x2048, .bf16⟩
  | .local _ .vmem, ⟨4, _⟩ => ⟨S2048x256, .bf16⟩
  | .local _ .vmem, ⟨5, _⟩ => ⟨S1x256, .f32⟩
  | .local _ .vmem, ⟨6, _⟩ => ⟨S256x512, .bf16⟩
  | .local _ .vmem, ⟨7, _⟩ => ⟨S1x512, .f32⟩
  | .local _ .vmem, ⟨8, _⟩ => ⟨S64x8x256, .f32⟩
  | .local _ .vmem, ⟨9, _⟩ => ⟨S64x8x256, .f32⟩
  | .local _ .vmem, ⟨10, _⟩ => ⟨S512x2048, .f32⟩
  | .local _ .vmem, ⟨11, _⟩ => ⟨S8x2048, .f32⟩
  | _, _ => ⟨S4096x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Proof.Spec.lean ====
/-
  One row of the layer's tail, as functions of plain extended reals: the normalisation of a row, the cross attention of
  one row over one memory, the squared-ReLU MLP and the closing normalisation. No program is mentioned here. The
  attention is stated over the form of the softmax, because the kernel and the reference write it differently.
-/
module

public import Idealize.ShloMosaic.Lib.Pointwise
public import Idealize.ShloMosaic.Lib.IdealHost

@[expose] public section

noncomputable section

namespace Cert.Row

open Idealize.ShloMosaic
open scoped BigOperators

/-- The number a row's sum of squares is divided by (1024, as the programs write it). -/
def width : EReal := Ideal.ofBits .f32 0x44800000#32
/-- The small number added to the mean square. -/
def tiny : EReal := Ideal.ofBits .f32 0x358637BD#32
/-- The factor on the attention scores. -/
def scale : EReal := Ideal.ofBits .f32 0x3D800000#32
/-- The value a row's maximum starts from. -/
def least : EReal := Ideal.ofBits .f32 0xFF800000#32

/-- The reciprocal root of a row's mean square. -/
def inv {n : ℕ} (x : Fin n → EReal) : EReal := Ideal.rsqrt (Ideal.div (∑ k, x k * x k) width + tiny)

/-- A row divided by the root of its mean square, times the gain. -/
def normed {n : ℕ} (x g : Fin n → EReal) (d : Fin n) : EReal := x d * inv x * g d

/-- A row times a matrix. -/
def lin {k n : ℕ} (h : Fin k → EReal) (w : Fin k → Fin n → EReal) (d : Fin n) : EReal := ∑ i, h i * w i d

/-- Scaled products of one query with the rows of `K`. -/
def scores (q : Fin 256 → EReal) (K : Fin 256 → Fin 256 → EReal) (m : Fin 256) : EReal := (∑ e, q e * K m e) * scale

/-- The largest score of a row. -/
def top (s : Fin 256 → EReal) : EReal := Finset.univ.fold max least s

/-- The exponential of a score less the largest one. -/
def expo (s : Fin 256 → EReal) (m : Fin 256) : EReal := Ideal.exp (s m - top s)

/-- Softmax as the exponential over the sum of exponentials. -/
def soft (s : Fin 256 → EReal) (m : Fin 256) : EReal := Ideal.div (expo s m) (∑ m', expo s m')

/-- Softmax as the exponential times the reciprocal of the sum. -/
def softRecip (s : Fin 256 → EReal) (m : Fin 256) : EReal := expo s m * Ideal.div 1 (∑ m', expo s m')

/-- Column `256 h + e` of a 1024-column row. -/
def col (h : Fin 4) (e : Fin 256) : Fin 1024 := ⟨256 * h.val + e.val, by omega⟩
/-- The same column among the keys, the first 1024 columns of the memory's projection. -/
def kcol (h : Fin 4) (e : Fin 256) : Fin 2048 := ⟨256 * h.val + e.val, by omega⟩
/-- The same column among the values, the last 1024 columns. -/
def vcol (h : Fin 4) (e : Fin 256) : Fin 2048 := ⟨1024 + (256 * h.val + e.val), by omega⟩

/-- The scores of one head. -/
def headScores (q : Fin 1024 → EReal) (kv : Fin 256 → Fin 2048 → EReal) (h : Fin 4) : Fin 256 → EReal :=
  scores (fun e => q (col h e)) (fun m e => kv m (kcol h e))

/-- One head's output: the values weighted by the softmax of its scores. -/
def head (S : (Fin 256 → EReal) → Fin 256 → EReal) (q : Fin 1024 → EReal) (kv : Fin 256 → Fin 2048 → EReal) (h : Fin 4)
    (e : Fin 256) : EReal := ∑ m, S (headScores q kv h) m * kv m (vcol h e)

/-- The four heads side by side. -/
def heads (S : (Fin 256 → EReal) → Fin 256 → EReal) (q : Fin 1024 → EReal) (kv : Fin 256 → Fin 2048 → EReal) (c : Fin 1024) :
    EReal := head S q kv ⟨c.val / 256, by omega⟩ ⟨c.val % 256, by omega⟩

/-- A row after the cross attention. -/
def afterAttn (S : (Fin 256 → EReal) → Fin 256 → EReal) (x g : Fin 1024 → EReal) (kv : Fin 256 → Fin 2048 → EReal)
    (wq wo : Fin 1024 → Fin 1024 → EReal) (d : Fin 1024) : EReal :=
  x d + lin (heads S (lin (normed x g) wq) kv) wo d

/-- The square of a number's positive part. -/
def sqRelu (a : EReal) : EReal := max a 0 * max a 0

/-- A hidden unit of the MLP. -/
def hidden {n : ℕ} (x g : Fin 1024 → EReal) (w1 : Fin 1024 → Fin n → EReal) (j : Fin n) : EReal :=
  sqRelu (lin (normed x g) w1 j)

/-- A row after the MLP. -/
def afterMlp (x g : Fin 1024 → EReal) (w1 : Fin 1024 → Fin 4096 → EReal) (w2 : Fin 4096 → Fin 1024 → EReal) (d : Fin 1024) :
    EReal := x d + lin (hidden x g w1) w2 d

/-- The whole row: attention, MLP, closing normalisation. -/
def tail (S : (Fin 256 → EReal) → Fin 256 → EReal) (x g : Fin 1024 → EReal) (kv : Fin 256 → Fin 2048 → EReal)
    (wq wo : Fin 1024 → Fin 1024 → EReal) (g2 : Fin 1024 → EReal) (w1 : Fin 1024 → Fin 4096 → EReal)
    (w2 : Fin 4096 → Fin 1024 → EReal) (gf : Fin 1024 → EReal) : Fin 1024 → EReal :=
  normed (afterMlp (afterAttn S x g kv wq wo) g2 w1 w2) gf

/-- The row of an earlier layer: attention and MLP, without the closing normalisation. -/
def innerRow (S : (Fin 256 → EReal) → Fin 256 → EReal) (x g : Fin 1024 → EReal) (kv : Fin 256 → Fin 2048 → EReal)
    (wq wo : Fin 1024 → Fin 1024 → EReal) (g2 : Fin 1024 → EReal) (w1 : Fin 1024 → Fin 4096 → EReal)
    (w2 : Fin 4096 → Fin 1024 → EReal) : Fin 1024 → EReal :=
  afterMlp (afterAttn S x g kv wq wo) g2 w1 w2

/-- Position `1024 j + k` of the 4096 hidden units. -/
def unit (j : Fin 4) (k : Fin 1024) : Fin 4096 := ⟨1024 * j.val + k.val, by omega⟩

/-- A sum over `a * b` positions, cut into `a` runs of `b`. -/
theorem sum_cut {a b n : ℕ} (hn : n = a * b) (f : Fin n → EReal) (hlt : ∀ (j : Fin a) (k : Fin b), b * j.val + k.val < n) :
    ∑ k, f k = ∑ j : Fin a, ∑ k : Fin b, f ⟨b * j.val + k.val, hlt j k⟩ := by
  subst hn
  rw [← Equiv.sum_comp finProdFinEquiv f, Fintype.sum_prod_type]
  refine Finset.sum_congr rfl fun j _ => Finset.sum_congr rfl fun k _ => congrArg f (Fin.ext ?_)
  show k.val + b * j.val = b * j.val + k.val
  exact Nat.add_comm _ _

/-- A sum over the hidden units is the sum over its four quarters, in order. -/
theorem sum_quarters (f : Fin 4096 → EReal) :
    ∑ k, f k = (∑ k, f (unit 0 k)) + (∑ k, f (unit 1 k)) + (∑ k, f (unit 2 k)) + ∑ k, f (unit 3 k) := by
  rw [sum_cut (a := 4) (b := 1024) (by norm_num) f (fun j k => by omega), Fin.sum_univ_four]
  rfl

/-- The MLP's product, a quarter of the hidden units at a time. -/
theorem afterMlp_quarters (x g : Fin 1024 → EReal) (w1 : Fin 1024 → Fin 4096 → EReal) (w2 : Fin 4096 → Fin 1024 → EReal)
    (d : Fin 1024) :
    afterMlp x g w1 w2 d = x d + (∑ k, hidden x g w1 (unit 0 k) * w2 (unit 0 k) d) + (∑ k, hidden x g w1 (unit 1 k) * w2 (unit 1 k) d)
      + (∑ k, hidden x g w1 (unit 2 k) * w2 (unit 2 k) d) + ∑ k, hidden x g w1 (unit 3 k) * w2 (unit 3 k) d := by
  unfold afterMlp lin
  rw [sum_quarters]
  simp only [add_assoc]

/-! ## The two forms of the softmax -/

/-- An extended real that is a real number. -/
def Real' (a : EReal) : Prop := ∃ r : ℝ, a = (r : EReal)

theorem Real'.mul {a b : EReal} : Real' a → Real' b → Real' (a * b)
  | ⟨r, hr⟩, ⟨s, hs⟩ => ⟨r * s, by rw [hr, hs, EReal.coe_mul]⟩

theorem coe_sum {ι : Type} (s : Finset ι) (r : ι → ℝ) : ((∑ i ∈ s, r i : ℝ) : EReal) = ∑ i ∈ s, (r i : EReal) :=
  map_sum (⟨⟨Real.toEReal, EReal.coe_zero⟩, EReal.coe_add⟩ : ℝ →+ EReal) r s

theorem Real'.sum {ι : Type} (s : Finset ι) {f : ι → EReal} (h : ∀ i, Real' (f i)) : Real' (∑ i ∈ s, f i) := by
  choose r hr using h
  exact ⟨∑ i ∈ s, r i, by rw [coe_sum]; exact Finset.sum_congr rfl fun i _ => hr i⟩

theorem width_eq : width = ((1024 : ℝ) : EReal) := by
  unfold width; simp [Ideal.ofBits, Ideal.ieee]; rw [← EReal.coe_mul]; norm_num
theorem scale_real : Real' scale := by
  refine ⟨1 / 16, ?_⟩; unfold scale; simp [Ideal.ofBits, Ideal.ieee]; rw [← EReal.coe_mul]; norm_num
theorem tiny_pos : ∃ r : ℝ, 0 < r ∧ tiny = (r : EReal) := by
  unfold tiny; simp [Ideal.ofBits, Ideal.ieee]
  exact ⟨8796093 * (2 ^ 43)⁻¹, by positivity, (EReal.coe_mul _ _).symm⟩
theorem least_eq : least = ⊥ := by
  unfold least; simp [Ideal.ofBits, Ideal.ieee]

/-- The reciprocal root of a real row's mean square is a real number. -/
theorem inv_real {n : ℕ} {x : Fin n → EReal} (h : ∀ k, Real' (x k)) : Real' (inv x) := by
  choose r hr using h
  obtain ⟨t, ht, htt⟩ := tiny_pos
  have e : ∑ k, x k * x k = ((∑ k, r k * r k : ℝ) : EReal) := by
    rw [coe_sum]; exact Finset.sum_congr rfl fun k _ => by rw [hr, EReal.coe_mul]
  have hs : 0 ≤ ∑ k, r k * r k := Finset.sum_nonneg fun k _ => mul_self_nonneg _
  have hp : 0 < (∑ k, r k * r k) * (1 / 1024) + t := by positivity
  refine ⟨(Real.sqrt ((∑ k, r k * r k) * (1 / 1024) + t))⁻¹, ?_⟩
  unfold inv
  rw [e, width_eq, Ideal.div_coe (by norm_num), htt, ← EReal.coe_mul, ← EReal.coe_add, Ideal.rsqrt_coe,
    if_neg (not_lt.mpr hp.le), if_neg hp.ne']

theorem normed_real {n : ℕ} {x g : Fin n → EReal} (hx : ∀ k, Real' (x k)) (hg : ∀ k, Real' (g k)) (d : Fin n) :
    Real' (normed x g d) := ((hx d).mul (inv_real hx)).mul (hg d)

theorem lin_real {k n : ℕ} {h : Fin k → EReal} {w : Fin k → Fin n → EReal} (hh : ∀ i, Real' (h i)) (hw : ∀ i d, Real' (w i d))
    (d : Fin n) : Real' (lin h w d) := Real'.sum _ fun i => (hh i).mul (hw i d)

theorem headScores_real {q : Fin 1024 → EReal} {kv : Fin 256 → Fin 2048 → EReal} (hq : ∀ c, Real' (q c)) (hk : ∀ m c, Real' (kv m c))
    (h : Fin 4) (m : Fin 256) : Real' (headScores q kv h m) :=
  (Real'.sum _ fun e => (hq _).mul (hk _ _)).mul scale_real

/-- The largest of real scores is one of them. -/
theorem top_mem (s : Fin 256 → EReal) : ∃ m, top s = s m := by
  have h : top s = Finset.univ.sup s := by
    unfold top; rw [least_eq]; rfl
  obtain ⟨m, _, hm⟩ := Finset.exists_mem_eq_sup Finset.univ ⟨(0 : Fin 256), Finset.mem_univ _⟩ s
  exact ⟨m, h.trans hm⟩

theorem exp_nonneg (a : EReal) : 0 ≤ Ideal.exp a := by
  induction a using EReal.rec with
  | bot => simp
  | coe r => rw [Ideal.exp_coe]; exact_mod_cast (Real.exp_pos r).le
  | top => simp

/-- The sum of a real row's exponentials is not zero: the largest score contributes one. -/
theorem sum_expo_ne_zero {s : Fin 256 → EReal} (h : ∀ m, Real' (s m)) : ∑ m, expo s m ≠ 0 := by
  obtain ⟨m, hm⟩ := top_mem s
  obtain ⟨r, hr⟩ := h m
  have h1 : expo s m = 1 := by
    unfold expo; rw [hm, hr, ← EReal.coe_sub, sub_self, Ideal.exp_coe, Real.exp_zero]; rfl
  have h2 : expo s m ≤ ∑ m', expo s m' := Finset.single_le_sum (f := expo s) (fun i _ => exp_nonneg _) (Finset.mem_univ m)
  rw [h1] at h2
  exact (lt_of_lt_of_le zero_lt_one h2).ne'

/-- On real scores the two forms of the softmax agree. -/
theorem softRecip_eq {s : Fin 256 → EReal} (h : ∀ m, Real' (s m)) : softRecip s = soft s :=
  funext fun _ => Ideal.mul_one_div (sum_expo_ne_zero h)

/-- So the two forms of the attention's row agree where the row, its gain, the memory and the query weights are real. -/
theorem afterAttn_softRecip {x g : Fin 1024 → EReal} {kv : Fin 256 → Fin 2048 → EReal} {wq : Fin 1024 → Fin 1024 → EReal}
    (hx : ∀ k, Real' (x k)) (hg : ∀ k, Real' (g k)) (hkv : ∀ m c, Real' (kv m c)) (hw : ∀ k c, Real' (wq k c))
    (wo : Fin 1024 → Fin 1024 → EReal) : afterAttn softRecip x g kv wq wo = afterAttn soft x g kv wq wo := by
  have e : heads softRecip (lin (normed x g) wq) kv = heads soft (lin (normed x g) wq) kv := by
    funext c
    unfold heads head
    rw [softRecip_eq (headScores_real (lin_real (normed_real hx hg) hw) hkv _)]
  unfold afterAttn
  rw [e]

/-- And the two forms of the whole row of an earlier layer, and of the last. -/
theorem inner_softRecip {x g : Fin 1024 → EReal} {kv : Fin 256 → Fin 2048 → EReal} {wq : Fin 1024 → Fin 1024 → EReal}
    (hx : ∀ k, Real' (x k)) (hg : ∀ k, Real' (g k)) (hkv : ∀ m c, Real' (kv m c)) (hw : ∀ k c, Real' (wq k c))
    (wo : Fin 1024 → Fin 1024 → EReal) (g2 : Fin 1024 → EReal) (w1 : Fin 1024 → Fin 4096 → EReal)
    (w2 : Fin 4096 → Fin 1024 → EReal) :
    innerRow softRecip x g kv wq wo g2 w1 w2 = innerRow soft x g kv wq wo g2 w1 w2 := by
  unfold innerRow
  rw [afterAttn_softRecip hx hg hkv hw]

theorem tail_softRecip {x g : Fin 1024 → EReal} {kv : Fin 256 → Fin 2048 → EReal} {wq : Fin 1024 → Fin 1024 → EReal}
    (hx : ∀ k, Real' (x k)) (hg : ∀ k, Real' (g k)) (hkv : ∀ m c, Real' (kv m c)) (hw : ∀ k c, Real' (wq k c))
    (wo : Fin 1024 → Fin 1024 → EReal) (g2 : Fin 1024 → EReal) (w1 : Fin 1024 → Fin 4096 → EReal)
    (w2 : Fin 4096 → Fin 1024 → EReal) (gf : Fin 1024 → EReal) :
    tail softRecip x g kv wq wo g2 w1 w2 gf = tail soft x g kv wq wo g2 w1 w2 gf := by
  unfold tail
  rw [afterAttn_softRecip hx hg hkv hw]

end Cert.Row

end
-- ==== Proof.Block.lean ====
/-
  What the kernel's body computes for one block of 512 rows, read at a row and a column.
-/
module

public import proofs.«01_k».proof.Proof.Gen.KernelIdeal.Frame
public import proofs.«01_k».proof.Proof.Spec
public import Idealize.ShloMosaic.Lib.Pipeline.Value

@[expose] public section

noncomputable section

namespace Cert.KernelIdeal.Block

open Cert.KernelIdeal Cert.KernelIdeal.Gen Cert.Row Idealize.ShloMosaic
open scoped BigOperators

/-- The queries. -/
theorem query_apply (x : Vec Ideal S1x512x1024 .f32) (g : Vec Ideal S1x1024 .f32) (wq : Vec Ideal S1024x1024 .bf16)
    (r : Fin 512) (c : Fin 1024) :
    k0_pay3 x g wq (ix2 r c)
      = lin (normed (fun k => x (ix3 0 r k)) (fun k => g (ix2 0 k))) (fun k c => wq (ix2 k c)) c := by
  pointwise [k0_pay3, k0_pay2]
  rfl

theorem col0 (e : Fin 256) : col 0 e = ⟨e.val, by omega⟩ := Fin.ext (by simp [col])
theorem col1 (e : Fin 256) : col 1 e = ⟨256 + e.val, by omega⟩ := Fin.ext (by simp [col])
theorem col2 (e : Fin 256) : col 2 e = ⟨512 + e.val, by omega⟩ := Fin.ext (by simp [col])
theorem col3 (e : Fin 256) : col 3 e = ⟨768 + e.val, by omega⟩ := Fin.ext (by simp [col])

/-- The scores of the first two heads. -/
theorem score0_apply (x : Vec Ideal S1x512x1024 .f32) (g : Vec Ideal S1x1024 .f32) (wq : Vec Ideal S1024x1024 .bf16)
    (k : Vec Ideal S1x256x256 .bf16) (r : Fin 512) (m : Fin 256) :
    k0_pay4 x g wq k (ix2 r m) = scores (fun e => k0_pay3 x g wq (ix2 r (col 0 e))) (fun m e => k (ix3 0 m e)) m := by
  generalize hq : k0_pay3 x g wq = q
  unfold k0_pay4
  rw [hq]
  pointwise
  simp only [scores, col0]
  rfl

theorem score1_apply (x : Vec Ideal S1x512x1024 .f32) (g : Vec Ideal S1x1024 .f32) (wq : Vec Ideal S1024x1024 .bf16)
    (k : Vec Ideal S1x256x256 .bf16) (r : Fin 512) (m : Fin 256) :
    k0_pay5 x g wq k (ix2 r m) = scores (fun e => k0_pay3 x g wq (ix2 r (col 1 e))) (fun m e => k (ix3 0 m e)) m := by
  generalize hq : k0_pay3 x g wq = q
  unfold k0_pay5
  rw [hq]
  pointwise
  simp only [scores, col1]
  rfl

/-- The exponentials of the third and the fourth head. -/
theorem expo2_apply (x : Vec Ideal S1x512x1024 .f32) (g : Vec Ideal S1x1024 .f32) (wq : Vec Ideal S1024x1024 .bf16)
    (k : Vec Ideal S1x256x256 .bf16) (r : Fin 512) (m : Fin 256) :
    k0_pay7 (k0_pay6 x g wq) k (ix2 r m)
      = expo (scores (fun e => k0_pay3 x g wq (ix2 r (col 2 e))) (fun m e => k (ix3 0 m e))) m := by
  generalize hq : k0_pay3 x g wq = q
  unfold k0_pay7 k0_pay6
  rw [hq]
  pointwise
  simp only [scores, col2, expo, top]
  rfl

theorem expo3_apply (q : Vec Ideal S512x1024 .bf16) (k : Vec Ideal S1x256x256 .bf16) (r : Fin 512) (m : Fin 256) :
    k0_pay8 q k (ix2 r m) = expo (scores (fun e => q (ix2 r (col 3 e))) (fun m e => k (ix3 0 m e))) m := by
  unfold k0_pay8
  pointwise
  simp only [scores, col3, expo, top]
  rfl

/-- The softmax of the first two heads, from their scores. -/
theorem soft0_apply (s : Vec Ideal S512x256 .f32) (r : Fin 512) (m : Fin 256) :
    k0_pay9 (F := Ideal) s (ix2 r m) = softRecip (fun m => s (ix2 r m)) m := by
  unfold k0_pay9
  pointwise
  simp only [softRecip, expo, top, Ideal.ofBits_one_f32]
  rfl

theorem soft1_apply (s : Vec Ideal S512x256 .f32) (r : Fin 512) (m : Fin 256) :
    k0_pay10 (F := Ideal) s (ix2 r m) = softRecip (fun m => s (ix2 r m)) m := by
  unfold k0_pay10
  pointwise
  simp only [softRecip, expo, top, Ideal.ofBits_one_f32]
  rfl

/-- The sum of the third head's exponentials. -/
theorem sum2_apply (q : Vec Ideal S512x256 .bf16) (k : Vec Ideal S1x256x256 .bf16) (r : Fin 512) :
    k0_pay11 q k (ix1 r) = ∑ m, k0_pay7 q k (ix2 r m) := by
  unfold k0_pay11
  pointwise

/-- Four heads side by side: the head of a column's quarter, at its place in the quarter. -/
def pick (a b c d : Fin 256 → EReal) (x : Fin 1024) : EReal :=
  if h : x.val < 256 then a ⟨x.val, h⟩
  else if h : x.val - 256 < 256 then b ⟨x.val - 256, h⟩
  else if h : x.val - 256 - 256 < 256 then c ⟨x.val - 256 - 256, h⟩
  else d ⟨x.val - 256 - 256 - 256, by omega⟩

theorem heads_eq_pick (S : (Fin 256 → EReal) → Fin 256 → EReal) (q : Fin 1024 → EReal) (kv : Fin 256 → Fin 2048 → EReal) :
    heads S q kv = pick (head S q kv 0) (head S q kv 1) (head S q kv 2) (head S q kv 3) := by
  funext x
  have hx := x.isLt
  unfold heads pick
  split
  · congr 1 <;> exact Fin.ext (by simp; omega)
  · split
    · congr 1 <;> exact Fin.ext (by simp; omega)
    · split
      · congr 1 <;> exact Fin.ext (by simp; omega)
      · congr 1 <;> exact Fin.ext (by simp; omega)

/-- The row after the attention: the four heads' values, weighted, side by side, times the output weights. -/
theorem attn_apply (x1 : FVec Ideal S512x1024 .f32) (e2 e3 p0 p1 : FVec Ideal S512x256 .f32) (s2 : FVec Ideal S512 .f32)
    (v0 v1 v2 v3 : Vec Ideal S1x256x256 .bf16) (wo : Vec Ideal S1024x1024 .bf16) (r : Fin 512) (d : Fin 1024) :
    k0_pay12 x1 e2 e3 p0 p1 s2 v0 v1 v2 v3 wo (ix2 r d)
      = x1 (ix2 r d) + lin (pick (fun e => ∑ m, p0 (ix2 r m) * v0 (ix3 0 m e)) (fun e => ∑ m, p1 (ix2 r m) * v1 (ix3 0 m e))
          (fun e => ∑ m, e2 (ix2 r m) * Ideal.div 1 (s2 (ix1 r)) * v2 (ix3 0 m e))
          (fun e => ∑ m, e3 (ix2 r m) * Ideal.div 1 (∑ m', e3 (ix2 r m')) * v3 (ix3 0 m e))) (fun k d => wo (ix2 k d)) d := by
  unfold k0_pay12
  pointwise
  rfl

/-- The row normalised again. -/
theorem normed_apply (x1 : FVec Ideal S512x1024 .f32) (g : FVec Ideal S1x1024 .f32) (r : Fin 512) (d : Fin 1024) :
    k0_pay26 x1 g (k0_pay25 x1) (ix2 r d) = normed (fun k => x1 (ix2 r k)) (fun k => g (ix2 0 k)) d := by
  unfold k0_pay26 k0_pay25
  pointwise
  rfl

/-- The first two quarters of the MLP, added to the row. -/
theorem quarters01_apply (x1 : FVec Ideal S512x1024 .f32) (g : FVec Ideal S1x1024 .f32) (sq : FVec Ideal S512x1024 .f32)
    (a0 b0 a1 b1 : Vec Ideal S1024x1024 .bf16) (r : Fin 512) (d : Fin 1024) :
    k0_pay27 x1 g sq a0 b0 a1 b1 (ix2 r d)
      = x1 (ix2 r d) + (∑ k, sqRelu (lin (fun k => k0_pay26 x1 g sq (ix2 r k)) (fun k j => a0 (ix2 k j)) k) * b0 (ix2 k d))
        + ∑ k, sqRelu (lin (fun k => k0_pay26 x1 g sq (ix2 r k)) (fun k j => a1 (ix2 k j)) k) * b1 (ix2 k d) := by
  unfold k0_pay27
  generalize k0_pay26 x1 g sq = h
  pointwise
  rfl

/-- The hidden units of the third quarter. -/
theorem hidden2_apply (x1 : FVec Ideal S512x1024 .f32) (g : FVec Ideal S1x1024 .f32) (sq : FVec Ideal S512x1024 .f32)
    (a2 : Vec Ideal S1024x1024 .bf16) (r : Fin 512) (d : Fin 1024) :
    k0_pay28 x1 g sq a2 (ix2 r d) = sqRelu (lin (fun k => k0_pay26 x1 g sq (ix2 r k)) (fun k j => a2 (ix2 k j)) d) := by
  unfold k0_pay28
  generalize k0_pay26 x1 g sq = h
  pointwise
  rfl

/-- The last two quarters and the closing normalisation. -/
theorem out_apply (h m u : FVec Ideal S512x1024 .f32) (b2 a3 b3 : Vec Ideal S1024x1024 .bf16) (g : Vec Ideal S1x1024 .f32)
    (r : Fin 512) (d : Fin 1024) :
    k0_pay29 (F := Ideal) h m u b2 a3 b3 g (ix3 0 r d)
      = normed (fun d => m (ix2 r d) + (∑ k, u (ix2 r k) * b2 (ix2 k d))
          + ∑ k, sqRelu (lin (fun k => h (ix2 r k)) (fun k j => a3 (ix2 k j)) k) * b3 (ix2 k d)) (fun k => g (ix2 0 k)) d := by
  unfold k0_pay29
  pointwise
  rfl

/-- What the body stores for a block of 512 rows, from its loads. -/
def half (x : Vec Ideal S1x512x1024 .f32) (g : Vec Ideal S1x1024 .f32) (wq : Vec Ideal S1024x1024 .bf16)
    (k0 k1 k2 k3 v0 v1 v2 v3 : Vec Ideal S1x256x256 .bf16) (wo : Vec Ideal S1024x1024 .bf16) (g2 : Vec Ideal S1x1024 .f32)
    (a0 b0 a1 b1 a2 b2 a3 b3 : Vec Ideal S1024x1024 .bf16) (gf : Vec Ideal S1x1024 .f32) : Vec Ideal S1x512x1024 .f32 :=
  let x1 := k0_pay12 (k0_pay2 x) (k0_pay7 (k0_pay6 x g wq) k2) (k0_pay8 (k0_pay3 x g wq) k3) (k0_pay9 (k0_pay4 x g wq k0))
    (k0_pay10 (k0_pay5 x g wq k1)) (k0_pay11 (k0_pay6 x g wq) k2) v0 v1 v2 v3 wo
  k0_pay29 (k0_pay26 x1 (k0_pay24 g2) (k0_pay25 x1)) (k0_pay27 x1 (k0_pay24 g2) (k0_pay25 x1) a0 b0 a1 b1)
    (k0_pay28 x1 (k0_pay24 g2) (k0_pay25 x1) a2) b2 a3 b3 gf

/-- A stored block, row by row. -/
theorem half_apply (x : Vec Ideal S1x512x1024 .f32) (g : Vec Ideal S1x1024 .f32) (wq : Vec Ideal S1024x1024 .bf16)
    (k0 k1 k2 k3 v0 v1 v2 v3 : Vec Ideal S1x256x256 .bf16) (wo : Vec Ideal S1024x1024 .bf16) (g2 : Vec Ideal S1x1024 .f32)
    (a0 b0 a1 b1 a2 b2 a3 b3 : Vec Ideal S1024x1024 .bf16) (gf : Vec Ideal S1x1024 .f32)
    (kv : Fin 256 → Fin 2048 → EReal) (w1 : Fin 1024 → Fin 4096 → EReal) (w2 : Fin 4096 → Fin 1024 → EReal)
    (hk0 : ∀ m e, k0 (ix3 0 m e) = kv m (kcol 0 e)) (hk1 : ∀ m e, k1 (ix3 0 m e) = kv m (kcol 1 e))
    (hk2 : ∀ m e, k2 (ix3 0 m e) = kv m (kcol 2 e)) (hk3 : ∀ m e, k3 (ix3 0 m e) = kv m (kcol 3 e))
    (hv0 : ∀ m e, v0 (ix3 0 m e) = kv m (vcol 0 e)) (hv1 : ∀ m e, v1 (ix3 0 m e) = kv m (vcol 1 e))
    (hv2 : ∀ m e, v2 (ix3 0 m e) = kv m (vcol 2 e)) (hv3 : ∀ m e, v3 (ix3 0 m e) = kv m (vcol 3 e))
    (ha0 : ∀ k j, a0 (ix2 k j) = w1 k (unit 0 j)) (ha1 : ∀ k j, a1 (ix2 k j) = w1 k (unit 1 j))
    (ha2 : ∀ k j, a2 (ix2 k j) = w1 k (unit 2 j)) (ha3 : ∀ k j, a3 (ix2 k j) = w1 k (unit 3 j))
    (hb0 : ∀ j d, b0 (ix2 j d) = w2 (unit 0 j) d) (hb1 : ∀ j d, b1 (ix2 j d) = w2 (unit 1 j) d)
    (hb2 : ∀ j d, b2 (ix2 j d) = w2 (unit 2 j) d) (hb3 : ∀ j d, b3 (ix2 j d) = w2 (unit 3 j) d)
    (r : Fin 512) (d : Fin 1024) :
    half x g wq k0 k1 k2 k3 v0 v1 v2 v3 wo g2 a0 b0 a1 b1 a2 b2 a3 b3 gf (ix3 0 r d)
      = tail softRecip (fun k => x (ix3 0 r k)) (fun k => g (ix2 0 k)) kv (fun k c => wq (ix2 k c)) (fun k c => wo (ix2 k c))
          (fun k => g2 (ix2 0 k)) w1 w2 (fun k => gf (ix2 0 k)) d := by
  have hx1 : ∀ d, k0_pay12 (k0_pay2 x) (k0_pay7 (k0_pay6 x g wq) k2) (k0_pay8 (k0_pay3 x g wq) k3) (k0_pay9 (k0_pay4 x g wq k0))
      (k0_pay10 (k0_pay5 x g wq k1)) (k0_pay11 (k0_pay6 x g wq) k2) v0 v1 v2 v3 wo (ix2 r d)
      = afterAttn softRecip (fun k => x (ix3 0 r k)) (fun k => g (ix2 0 k)) kv (fun k c => wq (ix2 k c)) (fun k c => wo (ix2 k c)) d := by
    intro d
    rw [attn_apply]
    unfold afterAttn
    rw [heads_eq_pick]
    simp only [soft0_apply, soft1_apply, score0_apply, score1_apply, expo2_apply, expo3_apply, sum2_apply, query_apply,
      hk0, hk1, hk2, hk3, hv0, hv1, hv2, hv3]
    have e : k0_pay2 x (ix2 r d) = x (ix3 0 r d) := by pointwise [k0_pay2]
    rw [e]
    rfl
  have hg2 : ∀ k, k0_pay24 g2 (ix2 0 k) = g2 (ix2 0 k) := fun k => by pointwise [k0_pay24]
  unfold half
  generalize k0_pay12 (k0_pay2 x) (k0_pay7 (k0_pay6 x g wq) k2) (k0_pay8 (k0_pay3 x g wq) k3) (k0_pay9 (k0_pay4 x g wq k0))
      (k0_pay10 (k0_pay5 x g wq k1)) (k0_pay11 (k0_pay6 x g wq) k2) v0 v1 v2 v3 wo = x1 at hx1
  rw [out_apply]
  simp only [quarters01_apply, hidden2_apply, normed_apply, hx1, hg2, ha0, ha1, ha2, ha3, hb0, hb1, hb2, hb3]
  unfold tail
  refine congrArg (fun f => normed f _ d) (funext fun d' => ?_)
  rw [afterMlp_quarters]
  rfl

/-- The tail of every row of a block of 1024. -/
def rows (x0 : Vec Ideal S1x1024x1024 .f32) (x1 : Vec Ideal S1x1024 .f32) (x2 : Vec Ideal S1x256x2048 .bf16)
    (x3 x4 : Vec Ideal S1024x1024 .bf16) (x5 : Vec Ideal S1x1024 .f32) (x6 : Vec Ideal S1024x4096 .bf16)
    (x7 : Vec Ideal S4096x1024 .bf16) (x8 : Vec Ideal S1x1024 .f32) : Vec Ideal S1x1024x1024 .f32 := fun y =>
  tail softRecip (fun k => x0 (ix3 0 (y 1) k)) (fun k => x1 (ix2 0 k)) (fun m c => x2 (ix3 0 m c))
    (fun k c => x3 (ix2 k c)) (fun k c => x4 (ix2 k c)) (fun k => x5 (ix2 0 k)) (fun k j => x6 (ix2 k j))
    (fun j d => x7 (ix2 j d)) (fun k => x8 (ix2 0 k)) (y 2)

/-- An index of a block of 512 rows, by its row and column. -/
theorem exists_row (j : S1x512x1024.Idx) : ∃ (r : Fin 512) (d : Fin 1024), j = ix3 0 r d := by
  refine ⟨j 1, j 2, funext fun a => ?_⟩
  match a with
  | ⟨0, _⟩ => exact Fin.ext (Nat.lt_one_iff.mp (j 0).isLt)
  | ⟨1, _⟩ => rfl
  | ⟨2, _⟩ => rfl

/-- Loading a whole scale row gives the row. -/
theorem ld_row (g : Vec Ideal S1x1024 .f32) : View.ld g r0_1 = g := View.ld_unit_zero (by funext a; match a with | 0 => rfl | 1 => rfl) _ g

/-- Loading a whole square weight gives the weight. -/
theorem ld_square (w : Vec Ideal S1024x1024 .bf16) : View.ld w r0_2 = w := View.ld_unit_zero (by funext a; match a with | 0 => rfl | 1 => rfl) _ w

/-- A stored block, when the weights, keys and values are loaded in their pieces. -/
theorem half_loads (x0 : Vec Ideal S1x1024x1024 .f32) (x1 : Vec Ideal S1x1024 .f32) (x2 : Vec Ideal S1x256x2048 .bf16)
    (x3 x4 : Vec Ideal S1024x1024 .bf16) (x5 : Vec Ideal S1x1024 .f32) (x6 : Vec Ideal S1024x4096 .bf16)
    (x7 : Vec Ideal S4096x1024 .bf16) (x8 : Vec Ideal S1x1024 .f32) (x : Vec Ideal S1x512x1024 .f32) (r : Fin 512) (d : Fin 1024) :
    half x (View.ld x1 r0_1) (View.ld x3 r0_2) (View.ld x2 r0_3) (View.ld x2 r0_4) (View.ld x2 r0_5)
      (View.ld x2 r0_6) (View.ld x2 r0_7) (View.ld x2 r0_8) (View.ld x2 r0_9) (View.ld x2 r0_10) (View.ld x4 r0_2) (View.ld x5 r0_1)
      (View.ld x6 r0_12) (View.ld x7 r0_13) (View.ld x6 r0_14) (View.ld x7 r0_15) (View.ld x6 r0_16) (View.ld x7 r0_17)
      (View.ld x6 r0_18) (View.ld x7 r0_19) (View.ld x8 r0_1) (ix3 0 r d)
      = tail softRecip (fun k => x (ix3 0 r k)) (fun k => x1 (ix2 0 k)) (fun m c => x2 (ix3 0 m c))
          (fun k c => x3 (ix2 k c)) (fun k c => x4 (ix2 k c)) (fun k => x5 (ix2 0 k)) (fun k j => x6 (ix2 k j))
          (fun j d => x7 (ix2 j d)) (fun k => x8 (ix2 0 k)) d := by
  rw [ld_row x1, ld_square x3, ld_square x4, ld_row x5, ld_row x8, half_apply (kv := fun m c => x2 (ix3 0 m c)) (w1 := fun k j => x6 (ix2 k j)) (w2 := fun j d => x7 (ix2 j d))]
  all_goals intro a b; pointwise
  all_goals first
    | exact congrArg (fun i => x2 (ix3 0 a i)) (Fin.ext (by simp [kcol, vcol]; try omega))
    | exact congrArg (fun i => x6 (ix2 a i)) (Fin.ext (by simp [unit]; try omega))
    | exact congrArg (fun i => x7 (ix2 i b)) (Fin.ext (by simp [unit]; try omega))

/-- One block of 1024 rows: every row is the layer's tail of that row. -/
theorem out_row (x0 : Vec Ideal S1x1024x1024 .f32) (x1 : Vec Ideal S1x1024 .f32) (x2 : Vec Ideal S1x256x2048 .bf16)
    (x3 x4 : Vec Ideal S1024x1024 .bf16) (x5 : Vec Ideal S1x1024 .f32) (x6 : Vec Ideal S1024x4096 .bf16)
    (x7 : Vec Ideal S4096x1024 .bf16) (x8 : Vec Ideal S1x1024 .f32) (y : S1x1024x1024.Idx) :
    out0_9 x0 x1 x2 x3 x4 x5 x6 x7 x8 y
      = rows x0 x1 x2 x3 x4 x5 x6 x7 x8 y := by
  unfold_out out0_9
  refine View.canon_apply_of_pieces (rows x0 x1 x2 x3 x4 x5 x6 x7 x8) _ (fun p hp j => ?_) y (cover0_9 _ _ y)
  simp only [List.mem_cons, List.mem_nil_iff, or_false] at hp
  rcases hp with rfl | rfl
  · obtain ⟨r, d, rfl⟩ := exists_row j
    refine (show _ = half (View.ld x0 r0_11) (View.ld x1 r0_1) (View.ld x3 r0_2) (View.ld x2 r0_3) (View.ld x2 r0_4) (View.ld x2 r0_5)
      (View.ld x2 r0_6) (View.ld x2 r0_7) (View.ld x2 r0_8) (View.ld x2 r0_9) (View.ld x2 r0_10) (View.ld x4 r0_2) (View.ld x5 r0_1)
      (View.ld x6 r0_12) (View.ld x7 r0_13) (View.ld x6 r0_14) (View.ld x7 r0_15) (View.ld x6 r0_16) (View.ld x7 r0_17)
      (View.ld x6 r0_18) (View.ld x7 r0_19) (View.ld x8 r0_1) (ix3 0 r d) from rfl).trans ?_
    rw [half_loads x0 x1 x2 x3 x4 x5 x6 x7 x8]
    have e : ∀ k : Fin 1024, r0_11.emb (ix3 0 r k) = ix3 0 ⟨512 + r.val, by omega⟩ k := fun k =>
      Rect.emb_eq_of_coords _ _ _ (fun a => by
        match a with
        | ⟨0, _⟩ => exact (rfl : (0 : ℕ) = 0 + 1 * 0)
        | ⟨1, _⟩ => exact (by omega : 512 + r.val = 512 + 1 * r.val)
        | ⟨2, _⟩ => exact (by omega : k.val = 0 + 1 * k.val))
    have ex : ∀ k : Fin 1024, View.ld x0 r0_11 (ix3 0 r k) = x0 (ix3 0 ⟨512 + r.val, by omega⟩ k) := fun k => congrArg x0 (e k)
    refine Eq.trans ?_ (congrArg (rows x0 x1 x2 x3 x4 x5 x6 x7 x8) (e d)).symm
    unfold rows
    simp only [ex]
    rfl
  · obtain ⟨r, d, rfl⟩ := exists_row j
    refine (show _ = half (View.ld x0 r0_0) (View.ld x1 r0_1) (View.ld x3 r0_2) (View.ld x2 r0_3) (View.ld x2 r0_4) (View.ld x2 r0_5)
      (View.ld x2 r0_6) (View.ld x2 r0_7) (View.ld x2 r0_8) (View.ld x2 r0_9) (View.ld x2 r0_10) (View.ld x4 r0_2) (View.ld x5 r0_1)
      (View.ld x6 r0_12) (View.ld x7 r0_13) (View.ld x6 r0_14) (View.ld x7 r0_15) (View.ld x6 r0_16) (View.ld x7 r0_17)
      (View.ld x6 r0_18) (View.ld x7 r0_19) (View.ld x8 r0_1) (ix3 0 r d) from rfl).trans ?_
    rw [half_loads x0 x1 x2 x3 x4 x5 x6 x7 x8]
    have e : ∀ k : Fin 1024, r0_0.emb (ix3 0 r k) = ix3 0 ⟨r.val, by omega⟩ k := fun k =>
      Rect.emb_eq_of_coords _ _ _ (fun a => by
        match a with
        | ⟨0, _⟩ => exact (rfl : (0 : ℕ) = 0 + 1 * 0)
        | ⟨1, _⟩ => exact (by omega : r.val = 0 + 1 * r.val)
        | ⟨2, _⟩ => exact (by omega : k.val = 0 + 1 * k.val))
    have ex : ∀ k : Fin 1024, View.ld x0 r0_0 (ix3 0 r k) = x0 (ix3 0 ⟨r.val, by omega⟩ k) := fun k => congrArg x0 (e k)
    refine Eq.trans ?_ (congrArg (rows x0 x1 x2 x3 x4 x5 x6 x7 x8) (e d)).symm
    unfold rows
    simp only [ex]
    rfl

end Cert.KernelIdeal.Block

end
-- ==== Proof.Array.lean ====
/-
  What the kernel's result array holds after the run: every row is the layer's tail of that row.
-/
module

public import proofs.«01_k».proof.Proof.Gen.KernelIdeal.Value
public import proofs.«01_k».proof.Proof.Block
public import Idealize.ShloMosaic.Lib.Pipeline.ValueKit
public import Idealize.ShloMosaic.Lib.Claim

@[expose] public section

noncomputable section

namespace Cert.KernelIdeal.Array

open Cert.KernelIdeal Cert.KernelIdeal.Gen Cert.KernelIdeal.Block Cert.Row Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The result of nine arguments, index by index, with the softmax left open. -/
def value (S : (Fin 256 → EReal) → Fin 256 → EReal) (x : Vec Ideal S8x4096x1024 .f32) (g : Vec Ideal S1024 .f32)
    (kv : Vec Ideal S8x256x2048 .bf16) (wq wo : Vec Ideal S1024x1024 .f32) (g2 : Vec Ideal S1024 .f32)
    (w1 : Vec Ideal S1024x4096 .f32) (w2 : Vec Ideal S4096x1024 .f32) (gf : Vec Ideal S1024 .f32) : Vec Ideal S8x4096x1024 .f32 :=
  fun i => tail S (fun k => x (ix3 (i 0) (i 1) k)) (fun k => g (ix1 k)) (fun j e => kv (ix3 (i 0) j e))
    (fun k c => wq (ix2 k c)) (fun k c => wo (ix2 k c)) (fun k => g2 (ix1 k)) (fun k j => w1 (ix2 k j)) (fun j d => w2 (ix2 j d))
    (fun k => gf (ix1 k)) (i 2)

/-- What the kernel leaves in its result array. -/
abbrev result (c : Dev nD) : Buf (Elt Ideal) ((c : Thread nD τ).loc main_v7) :=
  value softRecip (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- A vector laid out as one row. -/
theorem row_apply (x : Vec Ideal S1024 .f32) (k : Fin 1024) : shapeCast S1x1024 x shapeCasts_S1024_S1x1024 (ix2 0 k) = x (ix1 k) := by
  pointwise

/-! ## The arrays the blocks are cut from: the arguments, re-laid or in another format -/

/-- The attention's normalisation's weights as a row. -/
theorem V_main_v0 (c : Dev nD) (k : Fin 1024) :
    (V m c main_v0 : Vec Ideal S1x1024 .f32) (ix2 0 k) = (m ((c : Thread nD τ).loc main_arg1) : Vec Ideal S1024 .f32) (ix1 k) := by
  show StableHlo.after hostOps0 (fun b => m (c, b)) (Proc.devRef .tc main_v0) (ix2 0 k) = _
  after_results
  exact row_apply (m ((c : Thread nD τ).loc main_arg1)) k

/-- The MLP's normalisation's weights as a row. -/
theorem V_main_v3 (c : Dev nD) (k : Fin 1024) :
    (V m c main_v3 : Vec Ideal S1x1024 .f32) (ix2 0 k) = (m ((c : Thread nD τ).loc main_arg5) : Vec Ideal S1024 .f32) (ix1 k) := by
  show StableHlo.after hostOps0 (fun b => m (c, b)) (Proc.devRef .tc main_v3) (ix2 0 k) = _
  after_results
  exact row_apply (m ((c : Thread nD τ).loc main_arg5)) k

/-- The closing normalisation's weights as a row. -/
theorem V_main_v6 (c : Dev nD) (k : Fin 1024) :
    (V m c main_v6 : Vec Ideal S1x1024 .f32) (ix2 0 k) = (m ((c : Thread nD τ).loc main_arg8) : Vec Ideal S1024 .f32) (ix1 k) := by
  show StableHlo.after hostOps0 (fun b => m (c, b)) (Proc.devRef .tc main_v6) (ix2 0 k) = _
  after_results
  exact row_apply (m ((c : Thread nD τ).loc main_arg8)) k

/-- The query weights in the products' format. -/
theorem V_main_v1 (c : Dev nD) (k : Fin 1024) (j : Fin 1024) :
    (V m c main_v1 : Vec Ideal S1024x1024 .bf16) (ix2 k j) = (m ((c : Thread nD τ).loc main_arg3) : Vec Ideal S1024x1024 .f32) (ix2 k j) := by
  show StableHlo.after hostOps0 (fun b => m (c, b)) (Proc.devRef .tc main_v1) (ix2 k j) = _
  after_results
  rfl

/-- The output weights in the products' format. -/
theorem V_main_v2 (c : Dev nD) (k : Fin 1024) (j : Fin 1024) :
    (V m c main_v2 : Vec Ideal S1024x1024 .bf16) (ix2 k j) = (m ((c : Thread nD τ).loc main_arg4) : Vec Ideal S1024x1024 .f32) (ix2 k j) := by
  show StableHlo.after hostOps0 (fun b => m (c, b)) (Proc.devRef .tc main_v2) (ix2 k j) = _
  after_results
  rfl

/-- The MLP's first weights in the products' format. -/
theorem V_main_v4 (c : Dev nD) (k : Fin 1024) (j : Fin 4096) :
    (V m c main_v4 : Vec Ideal S1024x4096 .bf16) (ix2 k j) = (m ((c : Thread nD τ).loc main_arg6) : Vec Ideal S1024x4096 .f32) (ix2 k j) := by
  show StableHlo.after hostOps0 (fun b => m (c, b)) (Proc.devRef .tc main_v4) (ix2 k j) = _
  after_results
  rfl

/-- The MLP's second weights in the products' format. -/
theorem V_main_v5 (c : Dev nD) (k : Fin 4096) (j : Fin 1024) :
    (V m c main_v5 : Vec Ideal S4096x1024 .bf16) (ix2 k j) = (m ((c : Thread nD τ).loc main_arg7) : Vec Ideal S4096x1024 .f32) (ix2 k j) := by
  show StableHlo.after hostOps0 (fun b => m (c, b)) (Proc.devRef .tc main_v5) (ix2 k j) = _
  after_results
  rfl

/-! ## The blocks at coordinates -/

theorem index0 : ∀ t : Fin cfg0.N, win0_0.index t = ![(grid0.coords t 0).val, (grid0.coords t 1).val, 0] :=
  (by decide +kernel : ∀ t : Fin grid0.N, _)
theorem index2 : ∀ t : Fin cfg0.N, win0_2.index t = ![(grid0.coords t 0).val, 0, 0] :=
  (by decide +kernel : ∀ t : Fin grid0.N, _)
theorem index9 : ∀ t : Fin cfg0.N, win0_9.index t = ![(grid0.coords t 0).val, (grid0.coords t 1).val, 0] :=
  (by decide +kernel : ∀ t : Fin grid0.N, _)
theorem index1 : ∀ t : Fin cfg0.N, win0_1.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)

/-- A grid point's batch entry, and the place of its block's row `r` in the sequence. -/
def entry (t : Fin cfg0.N) : Fin 8 := grid0.coords t 0
def place (t : Fin cfg0.N) (r : Fin 1024) : Fin 4096 :=
  ⟨(grid0.coords t 1).val * 1024 + r.val, by have h : (grid0.coords t 1).val < 4 := (grid0.coords t 1).isLt; omega⟩

theorem iblk0_apply (c : Dev nD) (t : Fin cfg0.N) (r k : Fin 1024) :
    (iblk m c 0 t : Vec Ideal S1x1024x1024 .f32) (ix3 0 r k)
      = (m ((c : Thread nD τ).loc main_arg0) : Vec Ideal S8x4096x1024 .f32) (ix3 (entry t) (place t r) k) := by
  refine Eq.trans ?_ (congrFun (V_main_arg0 m c) (ix3 (entry t) (place t r) k))
  blk_simp [iblk]
  refine congrArg (V m c main_arg0) (funext fun a => Fin.ext ?_)
  match a with
  | ⟨0, _⟩ => blk_simp [index0]; exact Nat.add_zero _
  | ⟨1, _⟩ => blk_simp [index0]; rfl
  | ⟨2, _⟩ => blk_simp [index0]

theorem iblk2_apply (c : Dev nD) (t : Fin cfg0.N) (j : Fin 256) (e : Fin 2048) :
    (iblk m c 2 t : Vec Ideal S1x256x2048 .bf16) (ix3 0 j e)
      = (m ((c : Thread nD τ).loc main_arg2) : Vec Ideal S8x256x2048 .bf16) (ix3 (entry t) j e) := by
  refine Eq.trans ?_ (congrFun (V_main_arg2 m c) (ix3 (entry t) j e))
  blk_simp [iblk]
  refine congrArg (V m c main_arg2) (funext fun a => Fin.ext ?_)
  match a with
  | ⟨0, _⟩ => blk_simp [index2]; exact Nat.add_zero _
  | ⟨1, _⟩ => blk_simp [index2]
  | ⟨2, _⟩ => blk_simp [index2]

theorem iblk1_eq (c : Dev nD) (t : Fin cfg0.N) : iblk m c 1 t = V m c main_v0 := by
  funext y
  blk_simp [iblk]
  refine congrArg (V m c main_v0) (funext fun a => Fin.ext ?_)
  match a with
  | ⟨0, _⟩ => blk_simp [index1]
  | ⟨1, _⟩ => blk_simp [index1]

theorem iblk3_eq (c : Dev nD) (t : Fin cfg0.N) : iblk m c 3 t = V m c main_v1 := by
  funext y
  blk_simp [iblk]
  refine congrArg (V m c main_v1) (funext fun a => Fin.ext ?_)
  match a with
  | ⟨0, _⟩ => blk_simp [index3]
  | ⟨1, _⟩ => blk_simp [index3]

theorem iblk4_eq (c : Dev nD) (t : Fin cfg0.N) : iblk m c 4 t = V m c main_v2 := by
  funext y
  blk_simp [iblk]
  refine congrArg (V m c main_v2) (funext fun a => Fin.ext ?_)
  match a with
  | ⟨0, _⟩ => blk_simp [index4]
  | ⟨1, _⟩ => blk_simp [index4]

theorem iblk5_eq (c : Dev nD) (t : Fin cfg0.N) : iblk m c 5 t = V m c main_v3 := by
  funext y
  blk_simp [iblk]
  refine congrArg (V m c main_v3) (funext fun a => Fin.ext ?_)
  match a with
  | ⟨0, _⟩ => blk_simp [index5]
  | ⟨1, _⟩ => blk_simp [index5]

theorem iblk6_eq (c : Dev nD) (t : Fin cfg0.N) : iblk m c 6 t = V m c main_v4 := by
  funext y
  blk_simp [iblk]
  refine congrArg (V m c main_v4) (funext fun a => Fin.ext ?_)
  match a with
  | ⟨0, _⟩ => blk_simp [index6]
  | ⟨1, _⟩ => blk_simp [index6]

theorem iblk7_eq (c : Dev nD) (t : Fin cfg0.N) : iblk m c 7 t = V m c main_v5 := by
  funext y
  blk_simp [iblk]
  refine congrArg (V m c main_v5) (funext fun a => Fin.ext ?_)
  match a with
  | ⟨0, _⟩ => blk_simp [index7]
  | ⟨1, _⟩ => blk_simp [index7]

theorem iblk8_eq (c : Dev nD) (t : Fin cfg0.N) : iblk m c 8 t = V m c main_v6 := by
  funext y
  blk_simp [iblk]
  refine congrArg (V m c main_v6) (funext fun a => Fin.ext ?_)
  match a with
  | ⟨0, _⟩ => blk_simp [index8]
  | ⟨1, _⟩ => blk_simp [index8]

/-- An index of a block of 1024 rows, by its row and column. -/
theorem exists_row (y : S1x1024x1024.Idx) : ∃ r d : Fin 1024, y = ix3 0 r d := by
  refine ⟨y 1, y 2, funext fun a => ?_⟩
  match a with
  | ⟨0, _⟩ => exact Fin.ext (Nat.lt_one_iff.mp (y 0).isLt)
  | ⟨1, _⟩ => rfl
  | ⟨2, _⟩ => rfl

theorem emb9 (t : Fin cfg0.N) (r d : Fin 1024) : (win0_9.blk t).view.emb (ix3 0 r d) = ix3 (entry t) (place t r) d := by
  refine funext fun a => Fin.ext ?_
  match a with
  | ⟨0, _⟩ => blk_simp [index9]; exact Nat.add_zero _
  | ⟨1, _⟩ => blk_simp [index9]; rfl
  | ⟨2, _⟩ => blk_simp [index9]

/-! ## The array -/

/-- After the last grid point the result array is `result`. -/
theorem final (c : Dev nD) : (dats m 0 c).arrAt 9 cfg0.N = result m c := by
  refine (dats m 0 c).arrAt_eq_of_covers 9 _ (by decide +kernel) fun t hf y => ?_
  obtain ⟨r, d, rfl⟩ := exists_row y
  blk_simp
  rw [after0_9, out_row, emb9]
  show tail softRecip (fun k => iblk m c 0 t (ix3 0 r k)) (fun k => iblk m c 1 t (ix2 0 k)) (fun j e => iblk m c 2 t (ix3 0 j e))
    (fun k j => iblk m c 3 t (ix2 k j)) (fun k j => iblk m c 4 t (ix2 k j)) (fun k => iblk m c 5 t (ix2 0 k))
    (fun k j => iblk m c 6 t (ix2 k j)) (fun k j => iblk m c 7 t (ix2 k j)) (fun k => iblk m c 8 t (ix2 0 k)) d = _
  have e0 := funext fun k => iblk0_apply m c t r k
  have e2 := funext fun j => funext fun e => iblk2_apply m c t j e
  have e1 := funext fun k => (congrFun (iblk1_eq m c t) (ix2 0 k)).trans (V_main_v0 m c k)
  have e3 := funext fun k => funext fun j => (congrFun (iblk3_eq m c t) (ix2 k j)).trans (V_main_v1 m c k j)
  have e4 := funext fun k => funext fun j => (congrFun (iblk4_eq m c t) (ix2 k j)).trans (V_main_v2 m c k j)
  have e5 := funext fun k => (congrFun (iblk5_eq m c t) (ix2 0 k)).trans (V_main_v3 m c k)
  have e6 := funext fun k => funext fun j => (congrFun (iblk6_eq m c t) (ix2 k j)).trans (V_main_v4 m c k j)
  have e7 := funext fun k => funext fun j => (congrFun (iblk7_eq m c t) (ix2 k j)).trans (V_main_v5 m c k j)
  have e8 := funext fun k => (congrFun (iblk8_eq m c t) (ix2 0 k)).trans (V_main_v6 m c k)
  rw [e0, e1, e2, e3, e4, e5, e6, e7, e8]
  rfl

/-- The run: the result array is `result`, the arguments as launched. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Array

end
-- ==== Proof.RefValue.lean ====
/-
  What the reference computes, read at a row and a column.
-/
module

public import proofs.«01_k».proof.Proof.Gen.ReferenceIdeal.Read
public import proofs.«01_k».proof.Proof.Spec
public import Idealize.ShloMosaic.Lib.Pointwise
public import Idealize.ShloMosaic.Lib.KernelVsHost

@[expose] public section

noncomputable section

namespace Cert.ReferenceIdeal.Row

open Cert.ReferenceIdeal Cert.ReferenceIdeal.Read Cert.Row Idealize.ShloMosaic
open scoped BigOperators

variable (x0 : FVec Ideal S8x4096x1024 .f32) (x1 : FVec Ideal S1024 .f32) (x2 : FVec Ideal S8x256x2048 .bf16)
  (x3 x4 : FVec Ideal S1024x1024 .f32) (x5 : FVec Ideal S1024 .f32) (x6 : FVec Ideal S1024x4096 .f32)
  (x7 : FVec Ideal S4096x1024 .f32) (x8 : FVec Ideal S1024 .f32)

/-- The row normalised, before the attention. -/
theorem v12_apply (b : Fin 8) (s : Fin 4096) (d : Fin 1024) :
    val_main_v12 (F := Ideal) x0 x1 (ix3 b s d) = normed (fun k => x0 (ix3 b s k)) (fun k => x1 (ix1 k)) d := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

/-- The queries. -/
theorem v14_apply (b : Fin 8) (s : Fin 4096) (d : Fin 1024) :
    val_main_v14 (F := Ideal) x0 x1 x3 (ix3 b s d) = lin (fun k => val_main_v12 (F := Ideal) x0 x1 (ix3 b s k)) (fun k c => x3 (ix2 k c)) d := by
  unfold val_main_v14
  generalize val_main_v12 (F := Ideal) x0 x1 = h
  pointwise
  rfl

/-- The scaled scores of each head. -/
theorem v22_apply (b : Fin 8) (h : Fin 4) (s : Fin 4096) (j : Fin 256) :
    val_main_v22 (F := Ideal) x0 x1 x2 x3 (ix4 b h s j)
      = headScores (fun k => val_main_v14 (F := Ideal) x0 x1 x3 (ix3 b s k)) (fun j e => x2 (ix3 b j e)) h j := by
  unfold val_main_v22 val_main_v20 val_main_v15
  generalize val_main_v14 (F := Ideal) x0 x1 x3 = q
  pointwise [val_main_v18, val_main_v16, val_main_v21, val_main_v13, val_main_cst_2]
  unfold headScores scores
  refine congrArg (· * scale) (Finset.sum_congr rfl fun x _ => ?_)
  have e1 : h.val * 256 + x.val = (col h x).val := by unfold col; dsimp only; omega
  have e2 : h.val * 256 + x.val = (kcol h x).val := by unfold kcol; dsimp only; omega
  exact congrArg₂ (fun c c' => q (ix3 b s c) * x2 (ix3 b j c')) (Fin.ext e1) (Fin.ext e2)

/-- The largest score of each row. -/
theorem v23_apply (b : Fin 8) (h : Fin 4) (s : Fin 4096) :
    val_main_v23 (F := Ideal) x0 x1 x2 x3 (ix3 b h s) = top (fun j => val_main_v22 (F := Ideal) x0 x1 x2 x3 (ix4 b h s j)) := by
  unfold val_main_v23 val_main_cst_3
  generalize val_main_v22 (F := Ideal) x0 x1 x2 x3 = q
  refine (congrFun (hostReduce_maximumf_eq_multiReduction (F := Ideal) (s := S8x4x4096x256) (φ := .f32) q 0xFF800000#32 Gen.reducesTo_S8x4x4096x256_S8x4x4096_d3 Gen.h_S_
    ⟨Gen.reducesTo_S8x4x4096x256_S8x4x4096_d3.1, by decide, Gen.reducesTo_S8x4x4096x256_S8x4x4096_d3.2⟩ (Or.inl rfl) rfl) (ix3 b h s)).trans ?_
  pointwise
  rfl

/-- Starting a maximum from the least value again changes nothing. -/
theorem max_least_top (s : Fin 256 → EReal) : max least (top s) = top s :=
  max_eq_right ((Finset.le_fold_max least).mpr (Or.inl le_rfl))

/-- The exponential of a score less the largest of its row. -/
theorem v29_apply (b : Fin 8) (h : Fin 4) (s : Fin 4096) (j : Fin 256) :
    val_main_v29 (F := Ideal) x0 x1 x2 x3 (ix4 b h s j) = expo (fun j => val_main_v22 (F := Ideal) x0 x1 x2 x3 (ix4 b h s j)) j := by
  have e : idx_main_v26 (idx_main_v27 (ix4 b h s j)) = ix3 b h s := by
    funext a
    match a with
    | ⟨0, _⟩ => rfl
    | ⟨1, _⟩ => rfl
    | ⟨2, _⟩ => rfl
  rw [val_main_v29_apply, val_main_v28_apply, val_main_v27_apply, val_main_v26_apply, e, val_main_v25_apply, v23_apply, val_main_v24_apply]
  unfold expo
  conv_rhs => rw [← max_least_top]
  rfl

/-- The softmax of each row of scores. -/
theorem v33_apply (b : Fin 8) (h : Fin 4) (s : Fin 4096) (j : Fin 256) :
    val_main_v33 (F := Ideal) x0 x1 x2 x3 (ix4 b h s j) = soft (fun j => val_main_v22 (F := Ideal) x0 x1 x2 x3 (ix4 b h s j)) j := by
  have e : ∀ k, idx_main_v30 (idx_main_v31 (idx_main_v32 (ix4 b h s j))) k = ix4 b h s k := by
    intro k
    funext a
    match a with
    | ⟨0, _⟩ => rfl
    | ⟨1, _⟩ => rfl
    | ⟨2, _⟩ => rfl
    | ⟨3, _⟩ => rfl
  rw [val_main_v33_apply, val_main_v32_apply, val_main_v31_apply, val_main_v30_apply]
  simp only [e, v29_apply]
  have z : val_main_cst_5 (F := Ideal) (Shape.Idx.first Gen.h_S_) = 0 := Ideal.ofBits_zero_f32
  rw [z, zero_add]
  rfl

/-- The heads side by side. -/
theorem v36_apply (b : Fin 8) (s : Fin 4096) (d : Fin 1024) :
    val_main_v36 (F := Ideal) x0 x1 x2 x3 (ix3 b s d)
      = ∑ j, val_main_v33 (F := Ideal) x0 x1 x2 x3 (ix4 b ⟨d.val / 256, by omega⟩ s j)
          * x2 (ix3 b j (vcol ⟨d.val / 256, by omega⟩ ⟨d.val % 256, by omega⟩)) := by
  unfold val_main_v36 val_main_v35 val_main_v34
  generalize val_main_v33 (F := Ideal) x0 x1 x2 x3 = p
  pointwise [val_main_v19, val_main_v17, val_main_v13]
  refine Finset.sum_congr rfl fun j _ => ?_
  rw [mul_comm]
  refine congrArg (fun c => _ * x2 (ix3 b j c)) (Fin.ext ?_)
  show 1024 + d.val = 1024 + (256 * (d.val / 256) + d.val % 256)
  omega

/-- The row after the attention. -/
theorem v38_apply (b : Fin 8) (s : Fin 4096) (d : Fin 1024) :
    val_main_v38 (F := Ideal) x0 x1 x2 x3 x4 (ix3 b s d)
      = x0 (ix3 b s d) + lin (fun k => val_main_v36 (F := Ideal) x0 x1 x2 x3 (ix3 b s k)) (fun k d => x4 (ix2 k d)) d := by
  unfold val_main_v38 val_main_v37
  generalize val_main_v36 (F := Ideal) x0 x1 x2 x3 = p
  pointwise
  rfl

/-- The row normalised again. -/
theorem v51_apply (b : Fin 8) (s : Fin 4096) (d : Fin 1024) :
    val_main_v51 (F := Ideal) x0 x1 x2 x3 x4 x5 (ix3 b s d)
      = normed (fun k => val_main_v38 (F := Ideal) x0 x1 x2 x3 x4 (ix3 b s k)) (fun k => x5 (ix1 k)) d := by
  unfold val_main_v51 val_main_v50 val_main_v49 val_main_v48 val_main_v47 val_main_v46 val_main_v45 val_main_v44 val_main_v43 val_main_v42 val_main_v41
    val_main_v40 val_main_v39
  generalize val_main_v38 (F := Ideal) x0 x1 x2 x3 x4 = p
  pointwise [val_main_cst_6, val_main_cst_7, val_main_cst_8]
  rfl

/-- The row after the MLP. -/
theorem v56_apply (b : Fin 8) (s : Fin 4096) (d : Fin 1024) :
    val_main_v56 (F := Ideal) x0 x1 x2 x3 x4 x5 x6 x7 (ix3 b s d)
      = val_main_v38 (F := Ideal) x0 x1 x2 x3 x4 (ix3 b s d)
        + lin (fun j => sqRelu (lin (fun k => val_main_v51 (F := Ideal) x0 x1 x2 x3 x4 x5 (ix3 b s k)) (fun k j => x6 (ix2 k j)) j)) (fun j d => x7 (ix2 j d)) d := by
  unfold val_main_v56 val_main_v55 val_main_v54 val_main_v53 val_main_v52 val_main_call0_v0
  generalize val_main_v38 (F := Ideal) x0 x1 x2 x3 x4 = p
  generalize val_main_v51 (F := Ideal) x0 x1 x2 x3 x4 x5 = q
  pointwise [val_main_call0_cst]
  rfl

/-- The closing normalisation. -/
theorem v69_apply (b : Fin 8) (s : Fin 4096) (d : Fin 1024) :
    val_main_v69 (F := Ideal) x0 x1 x2 x3 x4 x5 x6 x7 x8 (ix3 b s d)
      = normed (fun k => val_main_v56 (F := Ideal) x0 x1 x2 x3 x4 x5 x6 x7 (ix3 b s k)) (fun k => x8 (ix1 k)) d := by
  unfold val_main_v69 val_main_v68 val_main_v67 val_main_v66 val_main_v65 val_main_v64 val_main_v63 val_main_v62 val_main_v61 val_main_v60 val_main_v59 val_main_v58 val_main_v57
  generalize val_main_v56 (F := Ideal) x0 x1 x2 x3 x4 x5 x6 x7 = p
  pointwise [val_main_cst_9, val_main_cst_10, val_main_cst_11]
  rfl

/-- The reference's result: every row is the layer's tail of that row. -/
theorem result_apply (b : Fin 8) (s : Fin 4096) (d : Fin 1024) :
    val_main_v69 (F := Ideal) x0 x1 x2 x3 x4 x5 x6 x7 x8 (ix3 b s d)
      = tail soft (fun k => x0 (ix3 b s k)) (fun k => x1 (ix1 k)) (fun j e => x2 (ix3 b j e)) (fun k c => x3 (ix2 k c))
          (fun k c => x4 (ix2 k c)) (fun k => x5 (ix1 k)) (fun k j => x6 (ix2 k j)) (fun j d => x7 (ix2 j d)) (fun k => x8 (ix1 k)) d := by
  simp only [v69_apply, v56_apply, v51_apply, v38_apply, v36_apply, v33_apply, v22_apply, v14_apply, v12_apply]
  rfl

end Cert.ReferenceIdeal.Row

end
-- ==== Proof.Finite.lean ====
/-
  Reading a precondition of finite inputs: an array whose every absolute value is below infinity holds real numbers.
-/
module

public import proofs.«01_k».proof.Proof.Spec
public import Idealize.ShloMosaic.Lib.ReduceAll

@[expose] public section

namespace Cert.Row

open Idealize.ShloMosaic

/-- A number whose absolute value is below infinity is real. -/
theorem real_of_abs_lt {a : EReal} (h : max a (-a) < ⊤) : Real' a := by
  induction a using EReal.rec with
  | bot => simp at h
  | top => simp at h
  | coe r => exact ⟨r, rfl⟩

/-- Both of two bits whose conjunction is set are set. -/
theorem and_bits : ∀ {a b : BitVec 1}, a &&& b = 1#1 → a = 1#1 ∧ b = 1#1 := by decide

/-- The test `all(|x| < inf)`, read at one index. -/
theorem real_of_all {s t u : Shape} {axes : List (Fin s.rank)} [Subsingleton t.Idx] (x : FVec Ideal s .f32) (y : FVec Ideal s .f32)
    (hy : ∀ i, y i = Ideal.ofBits .f32 0x7F800000#32) (init : u.Idx → BitVec 1) (h : s.ReducesTo axes t) (hu : 0 < u.numel) (j : t.Idx)
    (e : Host.reduce IntOp.andi (cmpf .olt (Host.absf x) y) init h hu j = 1#1) (i : s.Idx) : Real' (x i) := by
  have h1 : Ideal.cmp .olt (max (x i) (-(x i))) (y i) = 1#1 := Host.reduce_andi_all _ init h hu j e i
  have htop : Ideal.ofBits .f32 0x7F800000#32 = ⊤ := by simp [Ideal.ofBits, Ideal.ieee]
  rw [hy, htop] at h1
  refine real_of_abs_lt ?_
  by_contra hn
  have : BitVec.ofBool (decide (max (x i) (-(x i)) < ⊤)) = 1#1 := h1
  rw [decide_eq_false hn] at this
  exact absurd this (by decide)

end Cert.Row
-- ==== Proof.Pre.lean ====
/-
  The precondition on the inputs: the arguments it names hold real numbers.
-/
module

public import proofs.«01_k».proof.Defs
public import proofs.«01_k».proof.Proof.Finite

@[expose] public section

namespace Cert.Pre_inputs_finite

open Idealize.ShloMosaic Cert.Row

/-- The shapes the precondition names fit together. -/
theorem facts : Facts where
  bcast_S_S8x4096x1024 := by decide
  reducesTo_S8x4096x1024_S_d0_1_2 := by decide
  h_S_ := by decide
  bcast_S_S1024 := by decide
  reducesTo_S1024_S_d0 := by decide
  bitsLt_bf16_f32 := by decide
  bcast_S_S8x256x2048 := by decide
  reducesTo_S8x256x2048_S_d0_1_2 := by decide
  bcast_S_S1024x1024 := by decide
  reducesTo_S1024x1024_S_d0_1 := by decide

variable [Facts]

/-- The rows, their gain, the memory's keys and values and the query weights are real. -/
theorem reals (x0 : FVec Ideal S8x4096x1024 .f32) (x1 : FVec Ideal S1024 .f32) (x2 : FVec Ideal S8x256x2048 .bf16)
    (x3 x4 : FVec Ideal S1024x1024 .f32) (x5 : FVec Ideal S1024 .f32) (x6 : FVec Ideal S1024x4096 .f32)
    (x7 : FVec Ideal S4096x1024 .f32) (x8 : FVec Ideal S1024 .f32)
    (h : fn (F := Ideal) x0 x1 x2 x3 x4 x5 x6 x7 x8 = fun _ => 1#1) :
    (∀ i, Real' (x0 i)) ∧ (∀ i, Real' (x1 i)) ∧ (∀ i, Real' (x2 i)) ∧ ∀ i, Real' (x3 i) := by
  haveI : Subsingleton S_.Idx := ⟨fun a b => funext fun k => k.elim0⟩
  have h0 := congrFun h (fun k => k.elim0)
  obtain ⟨h012, h3⟩ := and_bits h0
  obtain ⟨h01, h2⟩ := and_bits h012
  obtain ⟨h0, h1⟩ := and_bits h01
  exact ⟨real_of_all x0 _ (fun _ => rfl) _ _ _ _ h0, real_of_all x1 _ (fun _ => rfl) _ _ _ _ h1,
    real_of_all (extf .f32 x2 Facts.bitsLt_bf16_f32) _ (fun _ => rfl) _ _ _ _ h2, real_of_all x3 _ (fun _ => rfl) _ _ _ _ h3⟩

end Cert.Pre_inputs_finite
-- ==== Proof.KvProj.lean ====
/-
  The projection of the memory: every row of the result is the memory's row, normalised, times the weights.
-/
module

public import proofs.«01_k».proof.Proof.Gen.Kernel3Ideal.Value
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Spec
public import Idealize.ShloMosaic.Lib.Pointwise
public import Idealize.ShloMosaic.Lib.Pipeline.Value
public import Idealize.ShloMosaic.Lib.Pipeline.ValueKit
public import Idealize.ShloMosaic.Lib.Claim

@[expose] public section

noncomputable section

namespace Cert.Kernel3Ideal.Rows

open Cert.Kernel3Ideal Cert.Kernel3Ideal.Gen Cert.Row Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What the body stores for a block, at a row and a column. -/
theorem pay_apply (x : Vec Ideal S512x1024 .f32) (g : Vec Ideal S1x1024 .f32) (w : Vec Ideal S1024x2048 .bf16) (r : Fin 512) (d : Fin 2048) :
    k0_pay1 x g w (ix2 r d) = lin (normed (fun k => x (ix2 r k)) (fun k => g (ix2 0 k))) (fun k c => w (ix2 k c)) d := by
  unfold k0_pay1
  pointwise
  rfl

/-- The projected rows of a block of 512. -/
def block (x : Vec Ideal S512x1024 .f32) (g : Vec Ideal S1x1024 .f32) (w : Vec Ideal S1024x2048 .bf16) : Vec Ideal S512x2048 .bf16 :=
  fun y => lin (normed (fun k => x (ix2 (y 0) k)) (fun k => g (ix2 0 k))) (fun k c => w (ix2 k c)) (y 1)

theorem exists_row {a b : ℕ} (y : (⟨2, ![a, b]⟩ : Shape).Idx) : ∃ (r : Fin a) (d : Fin b), y = ix2 r d := by
  refine ⟨y 0, y 1, funext fun k => ?_⟩
  match k with
  | ⟨0, _⟩ => rfl
  | ⟨1, _⟩ => rfl

theorem out_block (x : Vec Ideal S512x1024 .f32) (g : Vec Ideal S1x1024 .f32) (w : Vec Ideal S1024x2048 .bf16) (y : S512x2048.Idx) :
    out0_3 x g w y = block x g w y := by
  unfold out0_3
  refine View.canon_apply_of_pieces (block x g w) _ (fun p hp j => ?_) y (cover0_3 _ y)
  simp only [List.mem_cons, List.mem_nil_iff, or_false] at hp
  rcases hp with rfl
  obtain ⟨r, d, rfl⟩ := exists_row j
  refine (pay_apply _ _ _ r d).trans ?_
  rw [View.ld_unit_zero (by funext a; match a with | 0 => rfl | 1 => rfl) _ x, View.ld_unit_zero (by funext a; match a with | 0 => rfl | 1 => rfl) _ g,
    View.ld_unit_zero (by funext a; match a with | 0 => rfl | 1 => rfl) _ w]
  have e : r0_3.emb (ix2 r d) = ix2 r d := Rect.emb_eq_of_coords _ _ _ (fun a => by
    match a with
    | ⟨0, _⟩ => exact (by omega : r.val = 0 + 1 * r.val)
    | ⟨1, _⟩ => exact (by omega : d.val = 0 + 1 * d.val))
  exact (congrArg (block x g w) e).symm

/-- The projected memory of three arguments: row `256 b + j` is the memory's row `j` of batch entry `b`. -/
def value (x : Vec Ideal S8x256x1024 .f32) (g : Vec Ideal S1024 .f32) (w : Vec Ideal S1024x2048 .f32) : Vec Ideal S2048x2048 .bf16 := fun i =>
  lin (normed (fun k => x (ix3 ⟨(i 0).val / 256, by have : (i 0).val < 2048 := (i 0).isLt; omega⟩ ⟨(i 0).val % 256, by omega⟩ k)) (fun k => g (ix1 k)))
    (fun k c => w (ix2 k c)) (i 1)

/-- What the kernel leaves in its result array. -/
abbrev result (c : Dev nD) : Buf (Elt Ideal) ((c : Thread nD τ).loc main_v3) :=
  value (m ((c : Thread nD τ).loc main_arg0)) (m ((c : Thread nD τ).loc main_arg1)) (m ((c : Thread nD τ).loc main_arg2))

/-- The batch entries' rows one under the other. -/
theorem stacked_apply (x : Vec Ideal S8x256x1024 .f32) (r : Fin 2048) (k : Fin 1024) :
    shapeCast S2048x1024 x shapeCasts_S8x256x1024_S2048x1024 (ix2 r k) = x (ix3 ⟨r.val / 256, by omega⟩ ⟨r.val % 256, by omega⟩ k) := by
  pointwise

/-- A vector laid out as one row. -/
theorem row_apply (x : Vec Ideal S1024 .f32) (k : Fin 1024) : shapeCast S1x1024 x shapeCasts_S1024_S1x1024 (ix2 0 k) = x (ix1 k) := by
  pointwise

/-- The memory's rows one under the other. -/
theorem V_main_v0 (c : Dev nD) (r : Fin 2048) (k : Fin 1024) :
    (V m c main_v0 : Vec Ideal S2048x1024 .f32) (ix2 r k)
      = (m ((c : Thread nD τ).loc main_arg0) : Vec Ideal S8x256x1024 .f32) (ix3 ⟨r.val / 256, by omega⟩ ⟨r.val % 256, by omega⟩ k) := by
  show StableHlo.after hostOps0 (fun b => m (c, b)) (Proc.devRef .tc main_v0) (ix2 r k) = _
  after_results
  exact stacked_apply (m ((c : Thread nD τ).loc main_arg0)) r k

/-- The norm's weights as a row. -/
theorem V_main_v1 (c : Dev nD) (k : Fin 1024) :
    (V m c main_v1 : Vec Ideal S1x1024 .f32) (ix2 0 k) = (m ((c : Thread nD τ).loc main_arg1) : Vec Ideal S1024 .f32) (ix1 k) := by
  show StableHlo.after hostOps0 (fun b => m (c, b)) (Proc.devRef .tc main_v1) (ix2 0 k) = _
  after_results
  exact row_apply (m ((c : Thread nD τ).loc main_arg1)) k

/-- The weights in the product's format. -/
theorem V_main_v2 (c : Dev nD) (k : Fin 1024) (j : Fin 2048) :
    (V m c main_v2 : Vec Ideal S1024x2048 .bf16) (ix2 k j) = (m ((c : Thread nD τ).loc main_arg2) : Vec Ideal S1024x2048 .f32) (ix2 k j) := by
  show StableHlo.after hostOps0 (fun b => m (c, b)) (Proc.devRef .tc main_v2) (ix2 k j) = _
  after_results
  rfl

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 0] := (by decide +kernel : ∀ t : Fin grid0.N, _)

/-- The place of row `r` of a grid point's block. -/
def place (t : Fin cfg0.N) (r : Fin 512) : Fin 2048 :=
  ⟨t.val * 512 + r.val, by have h : t.val < 4 := t.isLt; omega⟩

theorem iblk0_apply (c : Dev nD) (t : Fin cfg0.N) (r : Fin 512) (k : Fin 1024) :
    (iblk m c 0 t : Vec Ideal S512x1024 .f32) (ix2 r k) = (V m c main_v0 : Vec Ideal S2048x1024 .f32) (ix2 (place t r) k) := by
  blk_simp [iblk]
  refine congrArg (V m c main_v0) (funext fun a => Fin.ext ?_)
  match a with
  | ⟨0, _⟩ => blk_simp [index0]; rfl
  | ⟨1, _⟩ => blk_simp [index0]

theorem iblk1_eq (c : Dev nD) (t : Fin cfg0.N) : iblk m c 1 t = V m c main_v1 := by
  funext y
  blk_simp [iblk]
  refine congrArg (V m c main_v1) (funext fun a => Fin.ext ?_)
  match a with
  | ⟨0, _⟩ => blk_simp [index1]
  | ⟨1, _⟩ => blk_simp [index1]

theorem iblk2_eq (c : Dev nD) (t : Fin cfg0.N) : iblk m c 2 t = V m c main_v2 := by
  funext y
  blk_simp [iblk]
  refine congrArg (V m c main_v2) (funext fun a => Fin.ext ?_)
  match a with
  | ⟨0, _⟩ => blk_simp [index2]
  | ⟨1, _⟩ => blk_simp [index2]

theorem emb3 (t : Fin cfg0.N) (r : Fin 512) (d : Fin 2048) : (win0_3.blk t).view.emb (ix2 r d) = ix2 (place t r) d := by
  refine funext fun a => Fin.ext ?_
  match a with
  | ⟨0, _⟩ => blk_simp [index3]; rfl
  | ⟨1, _⟩ => blk_simp [index3]

/-- After the last grid point the result array is `result`. -/
theorem final (c : Dev nD) : (dats m 0 c).arrAt 3 cfg0.N = result m c := by
  refine (dats m 0 c).arrAt_eq_of_covers 3 _ (by decide +kernel) fun t hf y => ?_
  obtain ⟨r, d, rfl⟩ := exists_row y
  blk_simp
  rw [after0_3, out_block, emb3]
  show lin (normed (fun k => iblk m c 0 t (ix2 r k)) (fun k => iblk m c 1 t (ix2 0 k))) (fun k j => iblk m c 2 t (ix2 k j)) d = _
  have e0 := funext fun k => (iblk0_apply m c t r k).trans (V_main_v0 m c _ k)
  have e1 := funext fun k => (congrFun (iblk1_eq m c t) (ix2 0 k)).trans (V_main_v1 m c k)
  have e2 := funext fun k => funext fun j => (congrFun (iblk2_eq m c t) (ix2 k j)).trans (V_main_v2 m c k j)
  rw [e0, e1, e2]
  rfl

/-- The run: the result array is `result`, the arguments as launched. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.Kernel3Ideal.Rows

namespace Cert.Reference3Ideal.Rows

open Cert.Reference3Ideal Cert.Reference3Ideal.Read Cert.Row Idealize.ShloMosaic

variable (x0 : FVec Ideal S8x256x1024 .f32) (x1 : FVec Ideal S1024 .f32) (x2 : FVec Ideal S1024x2048 .f32)

/-- The memory's rows, normalised. -/
theorem v12_apply (b : Fin 8) (s : Fin 256) (d : Fin 1024) :
    val_main_v12 (F := Ideal) x0 x1 (ix3 b s d) = normed (fun k => x0 (ix3 b s k)) (fun k => x1 (ix1 k)) d := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

/-- The reference's result is the kernel's. -/
theorem result_eq : val_main_v15 (F := Ideal) x0 x1 x2 = Cert.Kernel3Ideal.Rows.value x0 x1 x2 := by
  funext i
  obtain ⟨r, d, rfl⟩ := Cert.Kernel3Ideal.Rows.exists_row i
  unfold val_main_v15 val_main_v14 val_main_v13
  generalize h : val_main_v12 (F := Ideal) x0 x1 = p
  pointwise
  rw [← h]
  simp only [v12_apply]
  rfl

end Cert.Reference3Ideal.Rows

end
-- ==== Proof.Columns.lean ====
/-
  The order in which the mixers read the input projection's columns.
-/
module

public import proofs.«01_k».proof.Proof.Spec

@[expose] public section

noncomputable section

namespace Cert.Row

open Idealize.ShloMosaic

/-- Entry `n` of a row of 7192, and zero beyond it. -/
def get (f : Fin 7192 → EReal) (n : ℕ) : EReal := if h : n < 7192 then f ⟨n, h⟩ else 0

/-- The column of the weights behind each of the 3712 columns the mixers read, in their order: a head's gate stands
    beside each of its channels, and the columns after the low-rank gate's are empty. -/
def src (c : ℕ) : ℕ :=
  if c < 768 then c
  else if c < 1024 then 776 + (c - 768)
  else if c < 1280 then 768 + (c - 1024) / 64
  else if c < 1536 then 772 + (c - 1280) / 64
  else if c < 2048 then 1032 + (c - 1536)
  else if c < 2304 then 1560 + (c - 2048)
  else if c < 2320 then 1544 + (c - 2304)
  else if c < 2432 then 7192
  else 1816 + (c - 2432)

theorem get_src (f : Fin 7192 → EReal) {c n : ℕ} (hn : n < 7192) (e : src c = n) : f ⟨n, hn⟩ = get f (src c) := by
  subst e
  unfold get
  rw [dif_pos hn]

/-- Laying columns out commutes with the product. -/
theorem lin_get {k : ℕ} (h : Fin k → EReal) (w : Fin k → Fin 7192 → EReal) (n : ℕ) :
    ∑ i, h i * get (w i) n = get (lin h w) n := by
  unfold get
  split
  · rfl
  · exact (Finset.sum_congr rfl fun i _ => mul_zero _).trans Finset.sum_const_zero

theorem src_query {c : ℕ} (h : c < 768) : src c = c := by
  unfold src; rw [if_pos h]

theorem src_value {c : ℕ} (h : c < 256) : src (768 + c) = 776 + c := by
  unfold src; rw [if_neg (by omega), if_pos (by omega)]; omega

theorem src_gate_in {c : ℕ} (h : c < 256) : src (1024 + c) = 768 + c / 64 := by
  unfold src; rw [if_neg (by omega), if_neg (by omega), if_pos (by omega)]; omega

theorem src_gate_forget {c : ℕ} (h : c < 256) : src (1280 + c) = 772 + c / 64 := by
  unfold src; rw [if_neg (by omega), if_neg (by omega), if_neg (by omega), if_pos (by omega)]; omega

theorem src_linear {c : ℕ} (h : c < 512) : src (1536 + c) = 1032 + c := by
  unfold src; rw [if_neg (by omega), if_neg (by omega), if_neg (by omega), if_neg (by omega), if_pos (by omega)]; omega

theorem src_gate_out {c : ℕ} (h : c < 256) : src (2048 + c) = 1560 + c := by
  unfold src; rw [if_neg (by omega), if_neg (by omega), if_neg (by omega), if_neg (by omega), if_neg (by omega), if_pos (by omega)]; omega

theorem src_low_rank {c : ℕ} (h : c < 16) : src (2304 + c) = 1544 + c := by
  unfold src
  rw [if_neg (by omega), if_neg (by omega), if_neg (by omega), if_neg (by omega), if_neg (by omega), if_neg (by omega), if_pos (by omega)]
  omega

theorem src_empty {c : ℕ} (h : 16 ≤ c) (h' : c < 128) : src (2304 + c) = 7192 := by
  unfold src
  rw [if_neg (by omega), if_neg (by omega), if_neg (by omega), if_neg (by omega), if_neg (by omega), if_neg (by omega), if_neg (by omega),
    if_pos (by omega)]

theorem src_rest {c : ℕ} : src (2432 + c) = 1816 + c := by
  unfold src
  rw [if_neg (by omega), if_neg (by omega), if_neg (by omega), if_neg (by omega), if_neg (by omega), if_neg (by omega), if_neg (by omega),
    if_neg (by omega)]
  omega

theorem get_lt (f : Fin 7192 → EReal) {n : ℕ} (hn : n < 7192) : get f n = f ⟨n, hn⟩ := by
  unfold get
  rw [dif_pos hn]

theorem get_empty (f : Fin 7192 → EReal) : get f 7192 = 0 := by
  unfold get
  rw [dif_neg (by omega)]

end Cert.Row

end
-- ==== Proof.Mix.lean ====
/-
  The weights as the input projection reads them: their columns in the mixers' order.
-/
module

public import proofs.«01_k».proof.Proof.Columns
public import proofs.«01_k».proof.Proof.Gen.Kernel2Ideal.Value
public import Idealize.ShloMosaic.Lib.Pointwise
public import Idealize.ShloMosaic.Lib.Pipeline.Value

@[expose] public section

noncomputable section

namespace Cert.Kernel2Ideal.Rows

open Cert.Kernel2Ideal Cert.Kernel2Ideal.Gen Cert.Row Idealize.ShloMosaic Idealize.ShloMosaic.TcCoe Idealize.SL.Sem

variable (m : (ℓ : Loc nD τ sig) → Buf (Elt Ideal) ℓ)

theorem zero_pad : FloatOps.sitofp (F := Ideal) FTy.bf16 0#32 = (0 : EReal) := by
  show (((0#32 : BitVec 32).toInt : ℝ) : EReal) = 0
  simp

def part0 (w : Vec Ideal S1024x7192 .bf16) : Vec Ideal S1024x256 .bf16 :=
  extractStridedSlice S1024x256 ![0, 0] w slices_S1024x7192_S1024x256_0_0

theorem part0_apply (w : Vec Ideal S1024x7192 .bf16) (k : Fin 1024) (d : Fin 256) :
    part0 w (ix2 k d) = get (fun c => w (ix2 k c)) (src (d.val)) := by
  have hd := d.isLt
  unfold part0
  pointwise
  exact get_src (fun c => w (ix2 k c)) _ (src_query (by omega))

def part1 (w : Vec Ideal S1024x7192 .bf16) : Vec Ideal S1024x256 .bf16 :=
  extractStridedSlice S1024x256 ![0, 256] w slices_S1024x7192_S1024x256_0_256

theorem part1_apply (w : Vec Ideal S1024x7192 .bf16) (k : Fin 1024) (d : Fin 256) :
    part1 w (ix2 k d) = get (fun c => w (ix2 k c)) (src (256 + d.val)) := by
  have hd := d.isLt
  unfold part1
  pointwise
  exact get_src (fun c => w (ix2 k c)) _ (src_query (by omega))

def part2 (w : Vec Ideal S1024x7192 .bf16) : Vec Ideal S1024x256 .bf16 :=
  extractStridedSlice S1024x256 ![0, 512] w slices_S1024x7192_S1024x256_0_512

theorem part2_apply (w : Vec Ideal S1024x7192 .bf16) (k : Fin 1024) (d : Fin 256) :
    part2 w (ix2 k d) = get (fun c => w (ix2 k c)) (src (512 + d.val)) := by
  have hd := d.isLt
  unfold part2
  pointwise
  exact get_src (fun c => w (ix2 k c)) _ (src_query (by omega))

def part3 (w : Vec Ideal S1024x7192 .bf16) : Vec Ideal S1024x256 .bf16 :=
  extractStridedSlice S1024x256 ![0, 776] w slices_S1024x7192_S1024x256_0_776

theorem part3_apply (w : Vec Ideal S1024x7192 .bf16) (k : Fin 1024) (d : Fin 256) :
    part3 w (ix2 k d) = get (fun c => w (ix2 k c)) (src (768 + d.val)) := by
  have hd := d.isLt
  unfold part3
  pointwise
  exact get_src (fun c => w (ix2 k c)) _ (src_value hd)

def part4 (w : Vec Ideal S1024x7192 .bf16) : Vec Ideal S1024x256 .bf16 :=
  shapeCast S1024x256 (broadcastInDim S1024x4x64 ![0, 1] bcast_S1024x4_S1024x4x64_0_1 (extractStridedSlice S1024x4 ![0, 768] w slices_S1024x7192_S1024x4_0_768)) shapeCasts_S1024x4x64_S1024x256

theorem part4_apply (w : Vec Ideal S1024x7192 .bf16) (k : Fin 1024) (d : Fin 256) :
    part4 w (ix2 k d) = get (fun c => w (ix2 k c)) (src (1024 + d.val)) := by
  have hd := d.isLt
  unfold part4
  pointwise
  exact get_src (fun c => w (ix2 k c)) _ (src_gate_in hd)

def part5 (w : Vec Ideal S1024x7192 .bf16) : Vec Ideal S1024x256 .bf16 :=
  shapeCast S1024x256 (broadcastInDim S1024x4x64 ![0, 1] bcast_S1024x4_S1024x4x64_0_1 (extractStridedSlice S1024x4 ![0, 772] w slices_S1024x7192_S1024x4_0_772)) shapeCasts_S1024x4x64_S1024x256

theorem part5_apply (w : Vec Ideal S1024x7192 .bf16) (k : Fin 1024) (d : Fin 256) :
    part5 w (ix2 k d) = get (fun c => w (ix2 k c)) (src (1280 + d.val)) := by
  have hd := d.isLt
  unfold part5
  pointwise
  exact get_src (fun c => w (ix2 k c)) _ (src_gate_forget hd)

def part6 (w : Vec Ideal S1024x7192 .bf16) : Vec Ideal S1024x128 .bf16 :=
  extractStridedSlice S1024x128 ![0, 1032] w slices_S1024x7192_S1024x128_0_1032

theorem part6_apply (w : Vec Ideal S1024x7192 .bf16) (k : Fin 1024) (d : Fin 128) :
    part6 w (ix2 k d) = get (fun c => w (ix2 k c)) (src (1536 + d.val)) := by
  have hd := d.isLt
  unfold part6
  pointwise
  exact get_src (fun c => w (ix2 k c)) _ ((congrArg src (by omega : 1536 + d.val = 1536 + (0 + d.val))).trans ((src_linear (by omega)).trans (by omega)))

def part7 (w : Vec Ideal S1024x7192 .bf16) : Vec Ideal S1024x128 .bf16 :=
  extractStridedSlice S1024x128 ![0, 1160] w slices_S1024x7192_S1024x128_0_1160

theorem part7_apply (w : Vec Ideal S1024x7192 .bf16) (k : Fin 1024) (d : Fin 128) :
    part7 w (ix2 k d) = get (fun c => w (ix2 k c)) (src (1664 + d.val)) := by
  have hd := d.isLt
  unfold part7
  pointwise
  exact get_src (fun c => w (ix2 k c)) _ ((congrArg src (by omega : 1664 + d.val = 1536 + (128 + d.val))).trans ((src_linear (by omega)).trans (by omega)))

def part8 (w : Vec Ideal S1024x7192 .bf16) : Vec Ideal S1024x256 .bf16 :=
  extractStridedSlice S1024x256 ![0, 1288] w slices_S1024x7192_S1024x256_0_1288

theorem part8_apply (w : Vec Ideal S1024x7192 .bf16) (k : Fin 1024) (d : Fin 256) :
    part8 w (ix2 k d) = get (fun c => w (ix2 k c)) (src (1792 + d.val)) := by
  have hd := d.isLt
  unfold part8
  pointwise
  exact get_src (fun c => w (ix2 k c)) _ ((congrArg src (by omega : 1792 + d.val = 1536 + (256 + d.val))).trans ((src_linear (by omega)).trans (by omega)))

def part9 (w : Vec Ideal S1024x7192 .bf16) : Vec Ideal S1024x256 .bf16 :=
  extractStridedSlice S1024x256 ![0, 1560] w slices_S1024x7192_S1024x256_0_1560

theorem part9_apply (w : Vec Ideal S1024x7192 .bf16) (k : Fin 1024) (d : Fin 256) :
    part9 w (ix2 k d) = get (fun c => w (ix2 k c)) (src (2048 + d.val)) := by
  have hd := d.isLt
  unfold part9
  pointwise
  exact get_src (fun c => w (ix2 k c)) _ (src_gate_out hd)

def part10 (w : Vec Ideal S1024x7192 .bf16) : Vec Ideal S1024x128 .bf16 :=
  pad S1024x128 ![0, 0] ![0, 112] ![0, 0] (extractStridedSlice S1024x16 ![0, 1544] w slices_S1024x7192_S1024x16_0_1544) (sitofp (F := Ideal) .bf16 (constantI S_ 32 0#32)) pads_S1024x16_S1024x128_000_01120 h_S_

theorem part10_apply (w : Vec Ideal S1024x7192 .bf16) (k : Fin 1024) (d : Fin 128) :
    part10 w (ix2 k d) = get (fun c => w (ix2 k c)) (src (2304 + d.val)) := by
  have hd := d.isLt
  unfold part10
  pointwise
  by_cases h : d.val < 16
  · rw [dif_pos h]
    exact get_src (fun c => w (ix2 k c)) _ (src_low_rank h)
  · rw [dif_neg h, src_empty (by omega) hd, get_empty]
    exact zero_pad

def part11 (w : Vec Ideal S1024x7192 .bf16) : Vec Ideal S1024x256 .bf16 :=
  extractStridedSlice S1024x256 ![0, 1816] w slices_S1024x7192_S1024x256_0_1816

theorem part11_apply (w : Vec Ideal S1024x7192 .bf16) (k : Fin 1024) (d : Fin 256) :
    part11 w (ix2 k d) = get (fun c => w (ix2 k c)) (src (2432 + d.val)) := by
  have hd := d.isLt
  unfold part11
  pointwise
  exact get_src (fun c => w (ix2 k c)) _ ((congrArg src (by omega : 2432 + d.val = 2432 + (0 + d.val))).trans (src_rest.trans (by omega)))

def part12 (w : Vec Ideal S1024x7192 .bf16) : Vec Ideal S1024x256 .bf16 :=
  extractStridedSlice S1024x256 ![0, 2072] w slices_S1024x7192_S1024x256_0_2072

theorem part12_apply (w : Vec Ideal S1024x7192 .bf16) (k : Fin 1024) (d : Fin 256) :
    part12 w (ix2 k d) = get (fun c => w (ix2 k c)) (src (2688 + d.val)) := by
  have hd := d.isLt
  unfold part12
  pointwise
  exact get_src (fun c => w (ix2 k c)) _ ((congrArg src (by omega : 2688 + d.val = 2432 + (256 + d.val))).trans (src_rest.trans (by omega)))

def part13 (w : Vec Ideal S1024x7192 .bf16) : Vec Ideal S1024x256 .bf16 :=
  extractStridedSlice S1024x256 ![0, 2328] w slices_S1024x7192_S1024x256_0_2328

theorem part13_apply (w : Vec Ideal S1024x7192 .bf16) (k : Fin 1024) (d : Fin 256) :
    part13 w (ix2 k d) = get (fun c => w (ix2 k c)) (src (2944 + d.val)) := by
  have hd := d.isLt
  unfold part13
  pointwise
  exact get_src (fun c => w (ix2 k c)) _ ((congrArg src (by omega : 2944 + d.val = 2432 + (512 + d.val))).trans (src_rest.trans (by omega)))

def part14 (w : Vec Ideal S1024x7192 .bf16) : Vec Ideal S1024x256 .bf16 :=
  extractStridedSlice S1024x256 ![0, 2584] w slices_S1024x7192_S1024x256_0_2584

theorem part14_apply (w : Vec Ideal S1024x7192 .bf16) (k : Fin 1024) (d : Fin 256) :
    part14 w (ix2 k d) = get (fun c => w (ix2 k c)) (src (3200 + d.val)) := by
  have hd := d.isLt
  unfold part14
  pointwise
  exact get_src (fun c => w (ix2 k c)) _ ((congrArg src (by omega : 3200 + d.val = 2432 + (768 + d.val))).trans (src_rest.trans (by omega)))

def part15 (w : Vec Ideal S1024x7192 .bf16) : Vec Ideal S1024x256 .bf16 :=
  extractStridedSlice S1024x256 ![0, 2840] w slices_S1024x7192_S1024x256_0_2840

theorem part15_apply (w : Vec Ideal S1024x7192 .bf16) (k : Fin 1024) (d : Fin 256) :
    part15 w (ix2 k d) = get (fun c => w (ix2 k c)) (src (3456 + d.val)) := by
  have hd := d.isLt
  unfold part15
  pointwise
  exact get_src (fun c => w (ix2 k c)) _ ((congrArg src (by omega : 3456 + d.val = 2432 + (1024 + d.val))).trans (src_rest.trans (by omega)))

/-- The weights' columns laid out in the mixers' order. -/
def mix (w : Vec Ideal S1024x7192 .bf16) : Vec Ideal S1024x3712 .bf16 :=
  concatenate S1024x3712 1 [
    ⟨S1024x256, (part0 w : Vec Ideal S1024x256 .bf16)⟩,
    ⟨S1024x256, (part1 w : Vec Ideal S1024x256 .bf16)⟩,
    ⟨S1024x256, (part2 w : Vec Ideal S1024x256 .bf16)⟩,
    ⟨S1024x256, (part3 w : Vec Ideal S1024x256 .bf16)⟩,
    ⟨S1024x256, (part4 w : Vec Ideal S1024x256 .bf16)⟩,
    ⟨S1024x256, (part5 w : Vec Ideal S1024x256 .bf16)⟩,
    ⟨S1024x128, (part6 w : Vec Ideal S1024x128 .bf16)⟩,
    ⟨S1024x128, (part7 w : Vec Ideal S1024x128 .bf16)⟩,
    ⟨S1024x256, (part8 w : Vec Ideal S1024x256 .bf16)⟩,
    ⟨S1024x256, (part9 w : Vec Ideal S1024x256 .bf16)⟩,
    ⟨S1024x128, (part10 w : Vec Ideal S1024x128 .bf16)⟩,
    ⟨S1024x256, (part11 w : Vec Ideal S1024x256 .bf16)⟩,
    ⟨S1024x256, (part12 w : Vec Ideal S1024x256 .bf16)⟩,
    ⟨S1024x256, (part13 w : Vec Ideal S1024x256 .bf16)⟩,
    ⟨S1024x256, (part14 w : Vec Ideal S1024x256 .bf16)⟩,
    ⟨S1024x256, (part15 w : Vec Ideal S1024x256 .bf16)⟩]
    concatenates_S1024x256_S1024x256_S1024x256_S1024x256_S1024x256_S1024x256_S1024x128_S1024x128_S1024x256_S1024x256_S1024x128_S1024x256_S1024x256_S1024x256_S1024x256_S1024x256_S1024x3712_d1

set_option maxHeartbeats 2000000 in
/-- Entry by entry, column `j` is the weights' column `src j`. -/
theorem mix_apply (w : Vec Ideal S1024x7192 .bf16) (k : Fin 1024) (j : Fin 3712) :
    mix w (ix2 k j) = get (fun c => w (ix2 k c)) (src j.val) := by
  unfold mix
  have hj := j.isLt
  by_cases h0 : j.val < 256
  · exact (concatenate_apply_piece 1 _ _ (ix2 k j) 0 (by simp only [List.length_cons]; omega) S1024x256 (part0 w) rfl rfl 0 (by simp) (ix2 k ⟨j.val - 0, by omega⟩)
      (fun b hb => by
        match b with
        | ⟨0, _⟩ => rfl
        | ⟨1, _⟩ => exact absurd rfl hb)
      (by show 0 + (j.val - 0) = j.val; omega)).trans
      ((part0_apply w k _).trans (congrArg (fun n => get (fun c => w (ix2 k c)) (src n)) (by simp only []; omega)))
  by_cases h1 : j.val < 512
  · exact (concatenate_apply_piece 1 _ _ (ix2 k j) 1 (by simp only [List.length_cons]; omega) S1024x256 (part1 w) rfl rfl 256 (by simp) (ix2 k ⟨j.val - 256, by omega⟩)
      (fun b hb => by
        match b with
        | ⟨0, _⟩ => rfl
        | ⟨1, _⟩ => exact absurd rfl hb)
      (by show 256 + (j.val - 256) = j.val; omega)).trans
      ((part1_apply w k _).trans (congrArg (fun n => get (fun c => w (ix2 k c)) (src n)) (by simp only []; omega)))
  by_cases h2 : j.val < 768
  · exact (concatenate_apply_piece 1 _ _ (ix2 k j) 2 (by simp only [List.length_cons]; omega) S1024x256 (part2 w) rfl rfl 512 (by simp) (ix2 k ⟨j.val - 512, by omega⟩)
      (fun b hb => by
        match b with
        | ⟨0, _⟩ => rfl
        | ⟨1, _⟩ => exact absurd rfl hb)
      (by show 512 + (j.val - 512) = j.val; omega)).trans
      ((part2_apply w k _).trans (congrArg (fun n => get (fun c => w (ix2 k c)) (src n)) (by simp only []; omega)))
  by_cases h3 : j.val < 1024
  · exact (concatenate_apply_piece 1 _ _ (ix2 k j) 3 (by simp only [List.length_cons]; omega) S1024x256 (part3 w) rfl rfl 768 (by simp) (ix2 k ⟨j.val - 768, by omega⟩)
      (fun b hb => by
        match b with
        | ⟨0, _⟩ => rfl
        | ⟨1, _⟩ => exact absurd rfl hb)
      (by show 768 + (j.val - 768) = j.val; omega)).trans
      ((part3_apply w k _).trans (congrArg (fun n => get (fun c => w (ix2 k c)) (src n)) (by simp only []; omega)))
  by_cases h4 : j.val < 1280
  · exact (concatenate_apply_piece 1 _ _ (ix2 k j) 4 (by simp only [List.length_cons]; omega) S1024x256 (part4 w) rfl rfl 1024 (by simp) (ix2 k ⟨j.val - 1024, by omega⟩)
      (fun b hb => by
        match b with
        | ⟨0, _⟩ => rfl
        | ⟨1, _⟩ => exact absurd rfl hb)
      (by show 1024 + (j.val - 1024) = j.val; omega)).trans
      ((part4_apply w k _).trans (congrArg (fun n => get (fun c => w (ix2 k c)) (src n)) (by simp only []; omega)))
  by_cases h5 : j.val < 1536
  · exact (concatenate_apply_piece 1 _ _ (ix2 k j) 5 (by simp only [List.length_cons]; omega) S1024x256 (part5 w) rfl rfl 1280 (by simp) (ix2 k ⟨j.val - 1280, by omega⟩)
      (fun b hb => by
        match b with
        | ⟨0, _⟩ => rfl
        | ⟨1, _⟩ => exact absurd rfl hb)
      (by show 1280 + (j.val - 1280) = j.val; omega)).trans
      ((part5_apply w k _).trans (congrArg (fun n => get (fun c => w (ix2 k c)) (src n)) (by simp only []; omega)))
  by_cases h6 : j.val < 1664
  · exact (concatenate_apply_piece 1 _ _ (ix2 k j) 6 (by simp only [List.length_cons]; omega) S1024x128 (part6 w) rfl rfl 1536 (by simp) (ix2 k ⟨j.val - 1536, by omega⟩)
      (fun b hb => by
        match b with
        | ⟨0, _⟩ => rfl
        | ⟨1, _⟩ => exact absurd rfl hb)
      (by show 1536 + (j.val - 1536) = j.val; omega)).trans
      ((part6_apply w k _).trans (congrArg (fun n => get (fun c => w (ix2 k c)) (src n)) (by simp only []; omega)))
  by_cases h7 : j.val < 1792
  · exact (concatenate_apply_piece 1 _ _ (ix2 k j) 7 (by simp only [List.length_cons]; omega) S1024x128 (part7 w) rfl rfl 1664 (by simp) (ix2 k ⟨j.val - 1664, by omega⟩)
      (fun b hb => by
        match b with
        | ⟨0, _⟩ => rfl
        | ⟨1, _⟩ => exact absurd rfl hb)
      (by show 1664 + (j.val - 1664) = j.val; omega)).trans
      ((part7_apply w k _).trans (congrArg (fun n => get (fun c => w (ix2 k c)) (src n)) (by simp only []; omega)))
  by_cases h8 : j.val < 2048
  · exact (concatenate_apply_piece 1 _ _ (ix2 k j) 8 (by simp only [List.length_cons]; omega) S1024x256 (part8 w) rfl rfl 1792 (by simp) (ix2 k ⟨j.val - 1792, by omega⟩)
      (fun b hb => by
        match b with
        | ⟨0, _⟩ => rfl
        | ⟨1, _⟩ => exact absurd rfl hb)
      (by show 1792 + (j.val - 1792) = j.val; omega)).trans
      ((part8_apply w k _).trans (congrArg (fun n => get (fun c => w (ix2 k c)) (src n)) (by simp only []; omega)))
  by_cases h9 : j.val < 2304
  · exact (concatenate_apply_piece 1 _ _ (ix2 k j) 9 (by simp only [List.length_cons]; omega) S1024x256 (part9 w) rfl rfl 2048 (by simp) (ix2 k ⟨j.val - 2048, by omega⟩)
      (fun b hb => by
        match b with
        | ⟨0, _⟩ => rfl
        | ⟨1, _⟩ => exact absurd rfl hb)
      (by show 2048 + (j.val - 2048) = j.val; omega)).trans
      ((part9_apply w k _).trans (congrArg (fun n => get (fun c => w (ix2 k c)) (src n)) (by simp only []; omega)))
  by_cases h10 : j.val < 2432
  · exact (concatenate_apply_piece 1 _ _ (ix2 k j) 10 (by simp only [List.length_cons]; omega) S1024x128 (part10 w) rfl rfl 2304 (by simp) (ix2 k ⟨j.val - 2304, by omega⟩)
      (fun b hb => by
        match b with
        | ⟨0, _⟩ => rfl
        | ⟨1, _⟩ => exact absurd rfl hb)
      (by show 2304 + (j.val - 2304) = j.val; omega)).trans
      ((part10_apply w k _).trans (congrArg (fun n => get (fun c => w (ix2 k c)) (src n)) (by simp only []; omega)))
  by_cases h11 : j.val < 2688
  · exact (concatenate_apply_piece 1 _ _ (ix2 k j) 11 (by simp only [List.length_cons]; omega) S1024x256 (part11 w) rfl rfl 2432 (by simp) (ix2 k ⟨j.val - 2432, by omega⟩)
      (fun b hb => by
        match b with
        | ⟨0, _⟩ => rfl
        | ⟨1, _⟩ => exact absurd rfl hb)
      (by show 2432 + (j.val - 2432) = j.val; omega)).trans
      ((part11_apply w k _).trans (congrArg (fun n => get (fun c => w (ix2 k c)) (src n)) (by simp only []; omega)))
  by_cases h12 : j.val < 2944
  · exact (concatenate_apply_piece 1 _ _ (ix2 k j) 12 (by simp only [List.length_cons]; omega) S1024x256 (part12 w) rfl rfl 2688 (by simp) (ix2 k ⟨j.val - 2688, by omega⟩)
      (fun b hb => by
        match b with
        | ⟨0, _⟩ => rfl
        | ⟨1, _⟩ => exact absurd rfl hb)
      (by show 2688 + (j.val - 2688) = j.val; omega)).trans
      ((part12_apply w k _).trans (congrArg (fun n => get (fun c => w (ix2 k c)) (src n)) (by simp only []; omega)))
  by_cases h13 : j.val < 3200
  · exact (concatenate_apply_piece 1 _ _ (ix2 k j) 13 (by simp only [List.length_cons]; omega) S1024x256 (part13 w) rfl rfl 2944 (by simp) (ix2 k ⟨j.val - 2944, by omega⟩)
      (fun b hb => by
        match b with
        | ⟨0, _⟩ => rfl
        | ⟨1, _⟩ => exact absurd rfl hb)
      (by show 2944 + (j.val - 2944) = j.val; omega)).trans
      ((part13_apply w k _).trans (congrArg (fun n => get (fun c => w (ix2 k c)) (src n)) (by simp only []; omega)))
  by_cases h14 : j.val < 3456
  · exact (concatenate_apply_piece 1 _ _ (ix2 k j) 14 (by simp only [List.length_cons]; omega) S1024x256 (part14 w) rfl rfl 3200 (by simp) (ix2 k ⟨j.val - 3200, by omega⟩)
      (fun b hb => by
        match b with
        | ⟨0, _⟩ => rfl
        | ⟨1, _⟩ => exact absurd rfl hb)
      (by show 3200 + (j.val - 3200) = j.val; omega)).trans
      ((part14_apply w k _).trans (congrArg (fun n => get (fun c => w (ix2 k c)) (src n)) (by simp only []; omega)))
  exact (concatenate_apply_piece 1 _ _ (ix2 k j) 15 (by simp only [List.length_cons]; omega) S1024x256 (part15 w) rfl rfl 3456 (by simp) (ix2 k ⟨j.val - 3456, by omega⟩)
      (fun b hb => by
        match b with
        | ⟨0, _⟩ => rfl
        | ⟨1, _⟩ => exact absurd rfl hb)
      (by show 3456 + (j.val - 3456) = j.val; omega)).trans
      ((part15_apply w k _).trans (congrArg (fun n => get (fun c => w (ix2 k c)) (src n)) (by simp only []; omega)))

set_option maxHeartbeats 4000000 in
theorem V_mix (c : Dev nD) :
    (V m c main_v23 : Vec Ideal S1024x3712 .bf16) = mix (truncf (F := Ideal) .bf16 (m ((c : Thread nD τ).loc main_arg2) : Vec Ideal S1024x7192 .f32) bitsLt_bf16_f32) := by
  show StableHlo.after (List.flatten [hostOps0, hostOps0_1, hostOps0_2]) (fun b => m (c, b)) (Proc.devRef .tc main_v23) = _
  simp only [hostOps0, hostOps0_1, hostOps0_2, List.flatten_cons, List.flatten_nil, List.append_nil, List.cons_append, List.nil_append]
  after_results
  rfl

end Cert.Kernel2Ideal.Rows

end
-- ==== Proof.InprojRef.lean ====
/-
  What the reference of the input projection holds in each result.
-/
module

public import proofs.«01_k».proof.Proof.Columns
public import proofs.«01_k».proof.Proof.Gen.Reference2Ideal.Run
public import proofs.«01_k».proof.Proof.Gen.Reference2Ideal.Read
public import Idealize.ShloMosaic.Lib.Pointwise

@[expose] public section

noncomputable section

namespace Cert.Reference2Ideal.Rows

open Cert.Reference2Ideal Cert.Reference2Ideal.Read Cert.Row Idealize.ShloMosaic

variable (x0 : FVec Ideal S8x4096x1024 .f32) (x1 : FVec Ideal S1024 .f32) (x2 : FVec Ideal S1024x7192 .f32)

/-- The rows, normalised. -/
theorem v12_apply (b : Fin 8) (s : Fin 4096) (d : Fin 1024) :
    val_main_v12 (F := Ideal) x0 x1 (ix3 b s d) = normed (fun k => x0 (ix3 b s k)) (fun k => x1 (ix1 k)) d := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem v13_apply (b : Fin 8) (s : Fin 4096) (d : Fin 7192) :
    val_main_v13 (F := Ideal) x0 x1 x2 (ix3 b s d) = lin (normed (fun k => x0 (ix3 b s k)) (fun k => x1 (ix1 k))) (fun k c => x2 (ix2 k c)) d := by
  unfold val_main_v13
  generalize h : val_main_v12 (F := Ideal) x0 x1 = p
  pointwise
  rw [← h]
  simp only [v12_apply]
  rfl

/-- The first mixer's columns. -/
theorem v36_apply (b : Fin 8) (s : Fin 4096) (d : Fin 1536) :
    val_main_v36 (F := Ideal) x0 x1 x2 (ix3 b s d) = get (fun c => val_main_v13 (F := Ideal) x0 x1 x2 (ix3 b s c)) (src d.val) := by
  unfold val_main_v36 val_main_v35 val_main_v33 val_main_v34 val_main_v32 val_main_v14 val_main_v15 val_main_v16 val_main_v17 val_main_v18 val_main_v19
  generalize h : val_main_v13 (F := Ideal) x0 x1 x2 = p
  pointwise
  have hd := d.isLt
  split_ifs <;>
  · refine get_src (fun c => p (ix3 _ _ c)) _ ?_
    unfold src
    split_ifs <;> omega

theorem v37_apply (r : Fin 32768) (d : Fin 1536) :
    val_main_v37 (F := Ideal) x0 x1 x2 (ix2 r d)
      = get (fun c => val_main_v13 (F := Ideal) x0 x1 x2 (ix3 ⟨r.val / 4096, by omega⟩ ⟨r.val % 4096, by omega⟩ c)) (src d.val) := by
  refine Eq.trans ?_ (v36_apply x0 x1 x2 _ _ d)
  unfold val_main_v37
  generalize val_main_v36 (F := Ideal) x0 x1 x2 = p
  pointwise

/-- The low-rank gate's columns and the empty ones beside them. -/
theorem v31_apply (b : Fin 8) (s : Fin 4096) (d : Fin 128) :
    val_main_v31 (F := Ideal) x0 x1 x2 (ix3 b s d) = get (fun c => val_main_v13 (F := Ideal) x0 x1 x2 (ix3 b s c)) (src (2304 + d.val)) := by
  have hd := d.isLt
  unfold val_main_v31 val_main_v23
  generalize h : val_main_v13 (F := Ideal) x0 x1 x2 = p
  pointwise
  split_ifs with hs
  · exact get_src (fun c => p (ix3 _ _ c)) _ (src_low_rank hs)
  · rw [src_empty (by omega) hd, get_empty]
    unfold val_main_call0_v0 val_main_c
    pointwise
    show (((0#32 : BitVec 32).toInt : ℝ) : EReal) = 0
    simp

/-- The second mixer's columns. -/
theorem v38_apply (b : Fin 8) (s : Fin 4096) (d : Fin 896) :
    val_main_v38 (F := Ideal) x0 x1 x2 (ix3 b s d) = get (fun c => val_main_v13 (F := Ideal) x0 x1 x2 (ix3 b s c)) (src (1536 + d.val)) := by
  have hd := d.isLt
  have key := v31_apply x0 x1 x2 b s
  unfold val_main_v38 val_main_v20 val_main_v21 val_main_v22 val_main_v24
  generalize val_main_v31 (F := Ideal) x0 x1 x2 = q at *
  generalize h : val_main_v13 (F := Ideal) x0 x1 x2 = p at *
  pointwise
  by_cases h1 : d.val < 128
  · rw [dif_pos h1]
    exact get_src (fun c => p (ix3 _ _ c)) _ (src_linear (by omega))
  rw [dif_neg h1]
  by_cases h2 : d.val - 128 < 128
  · rw [dif_pos h2]
    exact get_src (fun c => p (ix3 _ _ c)) _ ((src_linear (by omega)).trans (by omega))
  rw [dif_neg h2]
  by_cases h3 : d.val - 128 - 128 < 256
  · rw [dif_pos h3]
    exact get_src (fun c => p (ix3 _ _ c)) _ ((src_linear (by omega)).trans (by omega))
  rw [dif_neg h3]
  by_cases h4 : d.val - 128 - 128 - 256 < 256
  · rw [dif_pos h4]
    refine get_src (fun c => p (ix3 _ _ c)) _ ?_
    rw [(by omega : 1536 + d.val = 2048 + (d.val - 512)), src_gate_out (by omega)]
    omega
  rw [dif_neg h4]
  refine (key _).trans (congrArg (fun n => get (fun c => p (ix3 b s c)) (src n)) ?_)
  simp only []
  omega

theorem v39_apply (r : Fin 32768) (d : Fin 896) :
    val_main_v39 (F := Ideal) x0 x1 x2 (ix2 r d)
      = get (fun c => val_main_v13 (F := Ideal) x0 x1 x2 (ix3 ⟨r.val / 4096, by omega⟩ ⟨r.val % 4096, by omega⟩ c)) (src (1536 + d.val)) := by
  refine Eq.trans ?_ (v38_apply x0 x1 x2 _ _ d)
  unfold val_main_v39
  generalize val_main_v38 (F := Ideal) x0 x1 x2 = p
  pointwise

/-- The third mixer's input, the time first. -/
theorem v41_apply (r : Fin 4096) (d : Fin 2048) :
    val_main_v41 (F := Ideal) x0 x1 x2 (ix2 r d)
      = get (fun c => val_main_v13 (F := Ideal) x0 x1 x2 (ix3 ⟨d.val / 256, by omega⟩ r c)) (src (2432 + d.val % 256)) := by
  unfold val_main_v41 val_main_v40 val_main_v25
  generalize h : val_main_v13 (F := Ideal) x0 x1 x2 = p
  pointwise
  exact get_src (fun c => p (ix3 _ _ c)) _ src_rest

/-- The fourth mixer's columns. -/
theorem v42_apply (b : Fin 8) (s : Fin 4096) (d : Fin 1024) :
    val_main_v42 (F := Ideal) x0 x1 x2 (ix3 b s d) = get (fun c => val_main_v13 (F := Ideal) x0 x1 x2 (ix3 b s c)) (src (2688 + d.val)) := by
  have hd := d.isLt
  rw [(by omega : 2688 + d.val = 2432 + (256 + d.val)), src_rest, get_lt _ (by omega)]
  unfold val_main_v42 val_main_v26 val_main_v27 val_main_v28 val_main_v29
  generalize val_main_v13 (F := Ideal) x0 x1 x2 = p
  pointwise
  split_ifs <;>
  · refine congrArg (fun c => p (ix3 b s c)) (Fin.ext ?_)
    simp only []
    omega

theorem v43_apply (r : Fin 32768) (d : Fin 1024) :
    val_main_v43 (F := Ideal) x0 x1 x2 (ix2 r d)
      = get (fun c => val_main_v13 (F := Ideal) x0 x1 x2 (ix3 ⟨r.val / 4096, by omega⟩ ⟨r.val % 4096, by omega⟩ c)) (src (2688 + d.val)) := by
  refine Eq.trans ?_ (v42_apply x0 x1 x2 _ _ d)
  unfold val_main_v43
  generalize val_main_v42 (F := Ideal) x0 x1 x2 = p
  pointwise

end Cert.Reference2Ideal.Rows

end
-- ==== Proof.Inproj.lean ====
/-
  The input projection: every row of the activations, normalised, times the mixers' columns of the weights.
-/
module

public import proofs.«01_k».proof.Proof.Mix
public import proofs.«01_k».proof.Proof.InprojRef
public import proofs.«01_k».proof.Proof.Gen.Kernel2Ideal.Value
public import proofs.«01_k».proof.Proof.Gen.Kernel2.Frame
public import proofs.«01_k».proof.Proof.Gen.Kernel2Ideal.Frame
public import Idealize.ShloMosaic.Lib.Pipeline.Value
public import Idealize.ShloMosaic.Lib.Pipeline.ValueKit
public import Idealize.ShloMosaic.Lib.Claim

@[expose] public section

noncomputable section

namespace Cert.Kernel2Ideal.Rows

open Cert.Kernel2Ideal Cert.Kernel2Ideal.Gen Cert.Row Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem exists_entry {a b : ℕ} (y : (⟨2, ![a, b]⟩ : Shape).Idx) : ∃ (r : Fin a) (d : Fin b), y = ix2 r d := by
  refine ⟨y 0, y 1, funext fun k => ?_⟩
  match k with
  | ⟨0, _⟩ => rfl
  | ⟨1, _⟩ => rfl

/-- A row of a block, normalised, times column `j` of the laid-out weights. -/
def entry (x : Vec Ideal S512x1024 .f32) (g : Vec Ideal S1x1024 .f32) (w : Vec Ideal S1024x3712 .bf16) (r : Fin 512) (j : Fin 3712) : EReal :=
  lin (normed (fun k => x (ix2 r k)) (fun k => g (ix2 0 k))) (fun k c => w (ix2 k c)) j

/-- The projection of a row of the activations, as a row of 7192 numbers. -/
def projected (x : Vec Ideal S8x4096x1024 .f32) (g : Vec Ideal S1024 .f32) (w : Vec Ideal S1024x7192 .f32) (b : Fin 8) (s : Fin 4096) : Fin 7192 → EReal :=
  lin (normed (fun k => x (ix3 b s k)) (fun k => g (ix1 k))) (fun k c => w (ix2 k c))

/-- The activations' rows one under the other. -/
theorem stacked_apply (x : Vec Ideal S8x4096x1024 .f32) (r : Fin 32768) (k : Fin 1024) :
    shapeCast S32768x1024 x shapeCasts_S8x4096x1024_S32768x1024 (ix2 r k) = x (ix3 ⟨r.val / 4096, by omega⟩ ⟨r.val % 4096, by omega⟩ k) := by
  pointwise

/-- A vector laid out as one row. -/
theorem row_apply (x : Vec Ideal S1024 .f32) (k : Fin 1024) : shapeCast S1x1024 x shapeCasts_S1024_S1x1024 (ix2 0 k) = x (ix1 k) := by
  pointwise

theorem V_main_v24 (c : Dev nD) (r : Fin 32768) (k : Fin 1024) :
    (V m c main_v24 : Vec Ideal S32768x1024 .f32) (ix2 r k)
      = (m ((c : Thread nD τ).loc main_arg0) : Vec Ideal S8x4096x1024 .f32) (ix3 ⟨r.val / 4096, by omega⟩ ⟨r.val % 4096, by omega⟩ k) := by
  show StableHlo.after (List.flatten [hostOps0, hostOps0_1, hostOps0_2]) (fun b => m (c, b)) (Proc.devRef .tc main_v24) (ix2 r k) = _
  simp only [hostOps0, hostOps0_1, hostOps0_2, List.flatten_cons, List.flatten_nil, List.append_nil, List.cons_append, List.nil_append]
  after_results
  exact stacked_apply (m ((c : Thread nD τ).loc main_arg0)) r k

theorem V_main_v25 (c : Dev nD) (k : Fin 1024) :
    (V m c main_v25 : Vec Ideal S1x1024 .f32) (ix2 0 k) = (m ((c : Thread nD τ).loc main_arg1) : Vec Ideal S1024 .f32) (ix1 k) := by
  show StableHlo.after (List.flatten [hostOps0, hostOps0_1, hostOps0_2]) (fun b => m (c, b)) (Proc.devRef .tc main_v25) (ix2 0 k) = _
  simp only [hostOps0, hostOps0_1, hostOps0_2, List.flatten_cons, List.flatten_nil, List.append_nil, List.cons_append, List.nil_append]
  after_results
  exact row_apply (m ((c : Thread nD τ).loc main_arg1)) k

theorem V_main_v23 (c : Dev nD) (k : Fin 1024) (j : Fin 3712) :
    (V m c main_v23 : Vec Ideal S1024x3712 .bf16) (ix2 k j)
      = get (fun c' => (m ((c : Thread nD τ).loc main_arg2) : Vec Ideal S1024x7192 .f32) (ix2 k c')) (src j.val) :=
  (congrFun (V_mix m c) (ix2 k j)).trans (mix_apply _ k j)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)

/-- The place of row `r` of a grid point's block. -/
def place (t : Fin cfg0.N) (r : Fin 512) : Fin 32768 :=
  ⟨t.val * 512 + r.val, by have h : t.val < 64 := t.isLt; omega⟩

theorem iblk0_apply (c : Dev nD) (t : Fin cfg0.N) (r : Fin 512) (k : Fin 1024) :
    (iblk m c 0 t : Vec Ideal S512x1024 .f32) (ix2 r k) = (V m c main_v24 : Vec Ideal S32768x1024 .f32) (ix2 (place t r) k) := by
  blk_simp [iblk]
  refine congrArg (V m c main_v24) (funext fun a => Fin.ext ?_)
  match a with
  | ⟨0, _⟩ => blk_simp [index0]; rfl
  | ⟨1, _⟩ => blk_simp [index0]

theorem iblk1_eq (c : Dev nD) (t : Fin cfg0.N) : iblk m c 1 t = V m c main_v25 := by
  funext y
  blk_simp [iblk]
  refine congrArg (V m c main_v25) (funext fun a => Fin.ext ?_)
  match a with
  | ⟨0, _⟩ => blk_simp [index1]
  | ⟨1, _⟩ => blk_simp [index1]

theorem iblk2_eq (c : Dev nD) (t : Fin cfg0.N) : iblk m c 2 t = V m c main_v23 := by
  funext y
  blk_simp [iblk]
  refine congrArg (V m c main_v23) (funext fun a => Fin.ext ?_)
  match a with
  | ⟨0, _⟩ => blk_simp [index2]
  | ⟨1, _⟩ => blk_simp [index2]

/-- The projection of the launch contents. -/
abbrev launched (c : Dev nD) : Fin 8 → Fin 4096 → Fin 7192 → EReal :=
  projected (m ((c : Thread nD τ).loc main_arg0)) (m ((c : Thread nD τ).loc main_arg1)) (m ((c : Thread nD τ).loc main_arg2))

/-- An entry of a grid point's block is an entry of the projection. -/
theorem entry_eq (c : Dev nD) (t : Fin cfg0.N) (r : Fin 512) (j : Fin 3712) :
    entry (iblk m c 0 t) (iblk m c 1 t) (iblk m c 2 t) r j
      = get (launched m c ⟨(place t r).val / 4096, by omega⟩ ⟨(place t r).val % 4096, by omega⟩) (src j.val) := by
  have e0 := funext fun k => (iblk0_apply m c t r k).trans (V_main_v24 m c _ k)
  have e1 := funext fun k => (congrFun (iblk1_eq m c t) (ix2 0 k)).trans (V_main_v25 m c k)
  have e2 := funext fun k => funext fun j => (congrFun (iblk2_eq m c t) (ix2 k j)).trans (V_main_v23 m c k j)
  unfold entry
  rw [e0, e1, e2]
  exact lin_get _ _ _

/-! ## The first result -/

theorem pay3_apply (x : Vec Ideal S512x1024 .f32) (g : Vec Ideal S1x1024 .f32) (w : Vec Ideal S1024x1536 .bf16) (r : Fin 512) (d : Fin 1536) :
    k0_pay3 x g w (ix2 r d) = lin (normed (fun k => x (ix2 r k)) (fun k => g (ix2 0 k))) (fun k c => w (ix2 k c)) d := by
  unfold k0_pay3 k0_pay2
  pointwise
  rfl

/-- A block of the first result. -/
def block3 (x : Vec Ideal S512x1024 .f32) (g : Vec Ideal S1x1024 .f32) (w : Vec Ideal S1024x3712 .bf16) : Vec Ideal S512x1536 .f32 :=
  fun y => entry x g w (y 0) ⟨0 + (y 1).val, by have : (y 1).val < 1536 := (y 1).isLt; omega⟩

theorem ld3_apply (w : Vec Ideal S1024x3712 .bf16) (k : Fin 1024) (d : Fin 1536) :
    (View.ld w r0_2 : Vec Ideal S1024x1536 .bf16) (ix2 k d) = w (ix2 k ⟨0 + d.val, by omega⟩) := by
  refine congrArg w (funext fun a => Fin.ext ?_)
  match a with
  | ⟨0, _⟩ => exact (by omega : 0 + 1 * k.val = k.val)
  | ⟨1, _⟩ => exact (by omega : 0 + 1 * d.val = 0 + d.val)

theorem out3_block (x : Vec Ideal S512x1024 .f32) (g : Vec Ideal S1x1024 .f32) (w : Vec Ideal S1024x3712 .bf16) (y : S512x1536.Idx) :
    out0_3 x g w y = block3 x g w y := by
  unfold out0_3
  refine View.canon_apply_of_pieces (block3 x g w) _ (fun p hp j => ?_) y (cover0_3 _ y)
  simp only [List.mem_cons, List.mem_nil_iff, or_false] at hp
  rcases hp with rfl
  obtain ⟨r, d, rfl⟩ := exists_entry j
  refine (pay3_apply _ _ _ r d).trans ?_
  rw [View.ld_unit_zero (by funext a; match a with | 0 => rfl | 1 => rfl) _ x, View.ld_unit_zero (by funext a; match a with | 0 => rfl | 1 => rfl) _ g]
  have e : r0_3.emb (ix2 r d) = ix2 r d := Rect.emb_eq_of_coords _ _ _ (fun a => by
    match a with
    | ⟨0, _⟩ => exact (by omega : r.val = 0 + 1 * r.val)
    | ⟨1, _⟩ => exact (by omega : d.val = 0 + 1 * d.val))
  refine Eq.trans ?_ (congrArg (block3 x g w) e).symm
  unfold lin
  exact Finset.sum_congr rfl fun k _ => congrArg (_ * ·) (ld3_apply w k d)

/-- The first result of a projection: row `4096 b + s` holds its columns of row `s` of batch entry `b`. -/
def value3 (f : Fin 8 → Fin 4096 → Fin 7192 → EReal) : Vec Ideal S32768x1536 .f32 := fun i =>
  get (f ⟨(i 0).val / 4096, by have : (i 0).val < 32768 := (i 0).isLt; omega⟩ ⟨(i 0).val % 4096, by omega⟩) (src ((i 1).val))

theorem index3 : ∀ t : Fin cfg0.N, win0_3.index t = ![t.val, 0] := (by decide +kernel : ∀ t : Fin grid0.N, _)

theorem emb3 (t : Fin cfg0.N) (r : Fin 512) (d : Fin 1536) : (win0_3.blk t).view.emb (ix2 r d) = ix2 (place t r) d := by
  refine funext fun a => Fin.ext ?_
  match a with
  | ⟨0, _⟩ => blk_simp [index3]; rfl
  | ⟨1, _⟩ => blk_simp [index3]

theorem final3 (c : Dev nD) : (dats m 0 c).arrAt 3 cfg0.N = value3 (launched m c) := by
  refine (dats m 0 c).arrAt_eq_of_covers 3 _ (by decide +kernel) fun t hf y => ?_
  obtain ⟨r, d, rfl⟩ := exists_entry y
  blk_simp
  rw [after0_3, out3_block, emb3]
  refine (entry_eq m c t r _).trans ?_
  exact congrArg (fun n => get _ (src n)) (Nat.zero_add _)

/-! ## The second result -/

theorem pay4_apply (x : Vec Ideal S512x1024 .f32) (g : Vec Ideal S1x1024 .f32) (w : Vec Ideal S1024x896 .bf16) (r : Fin 512) (d : Fin 896) :
    k0_pay4 x g w (ix2 r d) = lin (normed (fun k => x (ix2 r k)) (fun k => g (ix2 0 k))) (fun k c => w (ix2 k c)) d := by
  unfold k0_pay4 k0_pay2
  pointwise
  rfl

/-- A block of the second result. -/
def block4 (x : Vec Ideal S512x1024 .f32) (g : Vec Ideal S1x1024 .f32) (w : Vec Ideal S1024x3712 .bf16) : Vec Ideal S512x896 .f32 :=
  fun y => entry x g w (y 0) ⟨1536 + (y 1).val, by have : (y 1).val < 896 := (y 1).isLt; omega⟩

theorem ld4_apply (w : Vec Ideal S1024x3712 .bf16) (k : Fin 1024) (d : Fin 896) :
    (View.ld w r0_4 : Vec Ideal S1024x896 .bf16) (ix2 k d) = w (ix2 k ⟨1536 + d.val, by omega⟩) := by
  refine congrArg w (funext fun a => Fin.ext ?_)
  match a with
  | ⟨0, _⟩ => exact (by omega : 0 + 1 * k.val = k.val)
  | ⟨1, _⟩ => exact (by omega : 1536 + 1 * d.val = 1536 + d.val)

theorem out4_block (x : Vec Ideal S512x1024 .f32) (g : Vec Ideal S1x1024 .f32) (w : Vec Ideal S1024x3712 .bf16) (y : S512x896.Idx) :
    out0_4 x g w y = block4 x g w y := by
  unfold out0_4
  refine View.canon_apply_of_pieces (block4 x g w) _ (fun p hp j => ?_) y (cover0_4 _ y)
  simp only [List.mem_cons, List.mem_nil_iff, or_false] at hp
  rcases hp with rfl
  obtain ⟨r, d, rfl⟩ := exists_entry j
  refine (pay4_apply _ _ _ r d).trans ?_
  rw [View.ld_unit_zero (by funext a; match a with | 0 => rfl | 1 => rfl) _ x, View.ld_unit_zero (by funext a; match a with | 0 => rfl | 1 => rfl) _ g]
  have e : r0_5.emb (ix2 r d) = ix2 r d := Rect.emb_eq_of_coords _ _ _ (fun a => by
    match a with
    | ⟨0, _⟩ => exact (by omega : r.val = 0 + 1 * r.val)
    | ⟨1, _⟩ => exact (by omega : d.val = 0 + 1 * d.val))
  refine Eq.trans ?_ (congrArg (block4 x g w) e).symm
  unfold lin
  exact Finset.sum_congr rfl fun k _ => congrArg (_ * ·) (ld4_apply w k d)

/-- The second result of a projection: row `4096 b + s` holds its columns of row `s` of batch entry `b`. -/
def value4 (f : Fin 8 → Fin 4096 → Fin 7192 → EReal) : Vec Ideal S32768x896 .f32 := fun i =>
  get (f ⟨(i 0).val / 4096, by have : (i 0).val < 32768 := (i 0).isLt; omega⟩ ⟨(i 0).val % 4096, by omega⟩) (src (1536 + (i 1).val))

theorem index4 : ∀ t : Fin cfg0.N, win0_4.index t = ![t.val, 0] := (by decide +kernel : ∀ t : Fin grid0.N, _)

theorem emb4 (t : Fin cfg0.N) (r : Fin 512) (d : Fin 896) : (win0_4.blk t).view.emb (ix2 r d) = ix2 (place t r) d := by
  refine funext fun a => Fin.ext ?_
  match a with
  | ⟨0, _⟩ => blk_simp [index4]; rfl
  | ⟨1, _⟩ => blk_simp [index4]

theorem final4 (c : Dev nD) : (dats m 0 c).arrAt 4 cfg0.N = value4 (launched m c) := by
  refine (dats m 0 c).arrAt_eq_of_covers 4 _ (by decide +kernel) fun t hf y => ?_
  obtain ⟨r, d, rfl⟩ := exists_entry y
  blk_simp
  rw [after0_4, out4_block, emb4]
  refine (entry_eq m c t r _).trans ?_
  rfl

/-! ## The third result -/

theorem pay5_apply (x : Vec Ideal S512x1024 .f32) (g : Vec Ideal S1x1024 .f32) (w : Vec Ideal S1024x256 .bf16) (r : Fin 512) (d : Fin 256) :
    k0_pay5 x g w (ix2 r d) = lin (normed (fun k => x (ix2 r k)) (fun k => g (ix2 0 k))) (fun k c => w (ix2 k c)) d := by
  unfold k0_pay5 k0_pay2
  pointwise
  rfl

/-- A block of the third result. -/
def block5 (x : Vec Ideal S512x1024 .f32) (g : Vec Ideal S1x1024 .f32) (w : Vec Ideal S1024x3712 .bf16) : Vec Ideal S512x256 .f32 :=
  fun y => entry x g w (y 0) ⟨2432 + (y 1).val, by have : (y 1).val < 256 := (y 1).isLt; omega⟩

theorem ld5_apply (w : Vec Ideal S1024x3712 .bf16) (k : Fin 1024) (d : Fin 256) :
    (View.ld w r0_6 : Vec Ideal S1024x256 .bf16) (ix2 k d) = w (ix2 k ⟨2432 + d.val, by omega⟩) := by
  refine congrArg w (funext fun a => Fin.ext ?_)
  match a with
  | ⟨0, _⟩ => exact (by omega : 0 + 1 * k.val = k.val)
  | ⟨1, _⟩ => exact (by omega : 2432 + 1 * d.val = 2432 + d.val)

theorem out5_block (x : Vec Ideal S512x1024 .f32) (g : Vec Ideal S1x1024 .f32) (w : Vec Ideal S1024x3712 .bf16) (y : S512x256.Idx) :
    out0_5 x g w y = block5 x g w y := by
  unfold out0_5
  refine View.canon_apply_of_pieces (block5 x g w) _ (fun p hp j => ?_) y (cover0_5 _ y)
  simp only [List.mem_cons, List.mem_nil_iff, or_false] at hp
  rcases hp with rfl
  obtain ⟨r, d, rfl⟩ := exists_entry j
  refine (pay5_apply _ _ _ r d).trans ?_
  rw [View.ld_unit_zero (by funext a; match a with | 0 => rfl | 1 => rfl) _ x, View.ld_unit_zero (by funext a; match a with | 0 => rfl | 1 => rfl) _ g]
  have e : r0_7.emb (ix2 r d) = ix2 r d := Rect.emb_eq_of_coords _ _ _ (fun a => by
    match a with
    | ⟨0, _⟩ => exact (by omega : r.val = 0 + 1 * r.val)
    | ⟨1, _⟩ => exact (by omega : d.val = 0 + 1 * d.val))
  refine Eq.trans ?_ (congrArg (block5 x g w) e).symm
  unfold lin
  exact Finset.sum_congr rfl fun k _ => congrArg (_ * ·) (ld5_apply w k d)

/-- The third result of a projection: the time first, and beside each other the batch entries' 256 columns. -/
def value5 (f : Fin 8 → Fin 4096 → Fin 7192 → EReal) : Vec Ideal S4096x2048 .f32 := fun i =>
  get (f ⟨(i 1).val / 256, by have : (i 1).val < 2048 := (i 1).isLt; omega⟩ (i 0)) (src (2432 + (i 1).val % 256))

theorem index5 : ∀ t : Fin cfg0.N, win0_5.index t = ![t.val % 8, t.val / 8] := (by decide +kernel : ∀ t : Fin grid0.N, _)

theorem emb5 (t : Fin cfg0.N) (r : Fin 512) (d : Fin 256) :
    (win0_5.blk t).view.emb (ix2 r d) = ix2 (⟨t.val % 8 * 512 + r.val, by omega⟩ : Fin 4096)
      (⟨t.val / 8 * 256 + d.val, by have h : t.val < 64 := t.isLt; omega⟩ : Fin 2048) := by
  refine funext fun a => Fin.ext ?_
  match a with
  | ⟨0, _⟩ => blk_simp [index5]
  | ⟨1, _⟩ => blk_simp [index5]

theorem final5 (c : Dev nD) : (dats m 0 c).arrAt 5 cfg0.N = value5 (launched m c) := by
  refine (dats m 0 c).arrAt_eq_of_covers 5 _ (by decide +kernel) fun t hf y => ?_
  obtain ⟨r, d, rfl⟩ := exists_entry y
  blk_simp
  rw [after0_5, out5_block, emb5]
  refine (entry_eq m c t r _).trans ?_
  have ht : t.val < 64 := t.isLt
  have hb : (⟨(place t r).val / 4096, by omega⟩ : Fin 8) = ⟨(t.val / 8 * 256 + d.val) / 256, by omega⟩ :=
    Fin.ext (by show (t.val * 512 + r.val) / 4096 = (t.val / 8 * 256 + d.val) / 256; omega)
  have hs : (⟨(place t r).val % 4096, by omega⟩ : Fin 4096) = ⟨t.val % 8 * 512 + r.val, by omega⟩ :=
    Fin.ext (by show (t.val * 512 + r.val) % 4096 = t.val % 8 * 512 + r.val; omega)
  have hd : d.val = (t.val / 8 * 256 + d.val) % 256 := by omega
  rw [hb, hs]
  exact congrArg (fun n => get _ (src (2432 + n))) hd

/-! ## The fourth result -/

theorem pay6_apply (x : Vec Ideal S512x1024 .f32) (g : Vec Ideal S1x1024 .f32) (w : Vec Ideal S1024x1024 .bf16) (r : Fin 512) (d : Fin 1024) :
    k0_pay1 (k0_pay2 x g) (k0_pay6 w) (constant S512x1024 .f32 0x00000000#32) (ix2 r d) = lin (normed (fun k => x (ix2 r k)) (fun k => g (ix2 0 k))) (fun k c => w (ix2 k c)) d := by
  unfold k0_pay1 k0_pay6 k0_pay2
  pointwise
  rfl

/-- A block of the fourth result. -/
def block6 (x : Vec Ideal S512x1024 .f32) (g : Vec Ideal S1x1024 .f32) (w : Vec Ideal S1024x3712 .bf16) : Vec Ideal S512x1024 .f32 :=
  fun y => entry x g w (y 0) ⟨2688 + (y 1).val, by have : (y 1).val < 1024 := (y 1).isLt; omega⟩

theorem ld6_apply (w : Vec Ideal S1024x3712 .bf16) (k : Fin 1024) (d : Fin 1024) :
    (View.ld w r0_8 : Vec Ideal S1024x1024 .bf16) (ix2 k d) = w (ix2 k ⟨2688 + d.val, by omega⟩) := by
  refine congrArg w (funext fun a => Fin.ext ?_)
  match a with
  | ⟨0, _⟩ => exact (by omega : 0 + 1 * k.val = k.val)
  | ⟨1, _⟩ => exact (by omega : 2688 + 1 * d.val = 2688 + d.val)

theorem out6_block (x : Vec Ideal S512x1024 .f32) (g : Vec Ideal S1x1024 .f32) (w : Vec Ideal S1024x3712 .bf16) (y : S512x1024.Idx) :
    out0_6 x g w y = block6 x g w y := by
  unfold out0_6
  refine View.canon_apply_of_pieces (block6 x g w) _ (fun p hp j => ?_) y (cover0_6 _ y)
  simp only [List.mem_cons, List.mem_nil_iff, or_false] at hp
  rcases hp with rfl
  obtain ⟨r, d, rfl⟩ := exists_entry j
  refine (pay6_apply _ _ _ r d).trans ?_
  rw [View.ld_unit_zero (by funext a; match a with | 0 => rfl | 1 => rfl) _ x, View.ld_unit_zero (by funext a; match a with | 0 => rfl | 1 => rfl) _ g]
  have e : r0_0.emb (ix2 r d) = ix2 r d := Rect.emb_eq_of_coords _ _ _ (fun a => by
    match a with
    | ⟨0, _⟩ => exact (by omega : r.val = 0 + 1 * r.val)
    | ⟨1, _⟩ => exact (by omega : d.val = 0 + 1 * d.val))
  refine Eq.trans ?_ (congrArg (block6 x g w) e).symm
  unfold lin
  exact Finset.sum_congr rfl fun k _ => congrArg (_ * ·) (ld6_apply w k d)

/-- The fourth result of a projection: row `4096 b + s` holds its columns of row `s` of batch entry `b`. -/
def value6 (f : Fin 8 → Fin 4096 → Fin 7192 → EReal) : Vec Ideal S32768x1024 .f32 := fun i =>
  get (f ⟨(i 0).val / 4096, by have : (i 0).val < 32768 := (i 0).isLt; omega⟩ ⟨(i 0).val % 4096, by omega⟩) (src (2688 + (i 1).val))

theorem index6 : ∀ t : Fin cfg0.N, win0_6.index t = ![t.val, 0] := (by decide +kernel : ∀ t : Fin grid0.N, _)

theorem emb6 (t : Fin cfg0.N) (r : Fin 512) (d : Fin 1024) : (win0_6.blk t).view.emb (ix2 r d) = ix2 (place t r) d := by
  refine funext fun a => Fin.ext ?_
  match a with
  | ⟨0, _⟩ => blk_simp [index6]; rfl
  | ⟨1, _⟩ => blk_simp [index6]

theorem final6 (c : Dev nD) : (dats m 0 c).arrAt 6 cfg0.N = value6 (launched m c) := by
  refine (dats m 0 c).arrAt_eq_of_covers 6 _ (by decide +kernel) fun t hf y => ?_
  obtain ⟨r, d, rfl⟩ := exists_entry y
  blk_simp
  rw [after0_6, out6_block, emb6]
  refine (entry_eq m c t r _).trans ?_
  rfl

/-- The run: each result holds its columns of the projection, the arguments as launched. -/
theorem run : θ_run defs (onTc (τ := τ) (main (F := Ideal))) ⟨m, fun _ => 0, ρ⟩ fun r => ∀ c : Dev nD,
      r.2.mem ((c : Thread nD τ).loc main_v26_0) = value3 (launched m c)
      ∧ r.2.mem ((c : Thread nD τ).loc main_v26_1) = value4 (launched m c)
      ∧ r.2.mem ((c : Thread nD τ).loc main_v26_2) = value5 (launched m c)
      ∧ r.2.mem ((c : Thread nD τ).loc main_v26_3) = value6 (launched m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2.1.trans (final5 m c),
    (h c).2.2.2.1.trans (final6 m c), (h c).2.2.2.2⟩) (Value.run_blocks m ρ)

end Cert.Kernel2Ideal.Rows

namespace Cert.Reference2Ideal.Rows

open Cert.Reference2Ideal Cert.Reference2Ideal.Read Cert.Row Idealize.ShloMosaic
open Cert.Kernel2Ideal.Rows (projected exists_entry value3 value4 value5 value6)

variable (x0 : FVec Ideal S8x4096x1024 .f32) (x1 : FVec Ideal S1024 .f32) (x2 : FVec Ideal S1024x7192 .f32)

theorem v13_eq (b : Fin 8) (s : Fin 4096) : (fun c => val_main_v13 (F := Ideal) x0 x1 x2 (ix3 b s c)) = projected x0 x1 x2 b s :=
  funext fun c => v13_apply x0 x1 x2 b s c

theorem result3_eq : val_main_v37 (F := Ideal) x0 x1 x2 = value3 (projected x0 x1 x2) := by
  funext i
  obtain ⟨r, d, rfl⟩ := exists_entry i
  rw [v37_apply, v13_eq]
  rfl

theorem result4_eq : val_main_v39 (F := Ideal) x0 x1 x2 = value4 (projected x0 x1 x2) := by
  funext i
  obtain ⟨r, d, rfl⟩ := exists_entry i
  rw [v39_apply, v13_eq]
  rfl

theorem result5_eq : val_main_v41 (F := Ideal) x0 x1 x2 = value5 (projected x0 x1 x2) := by
  funext i
  obtain ⟨r, d, rfl⟩ := exists_entry i
  rw [v41_apply, v13_eq]
  rfl

theorem result6_eq : val_main_v43 (F := Ideal) x0 x1 x2 = value6 (projected x0 x1 x2) := by
  funext i
  obtain ⟨r, d, rfl⟩ := exists_entry i
  rw [v43_apply, v13_eq]
  rfl

end Cert.Reference2Ideal.Rows

end
-- ==== Proof.InnerBlock.lean ====
/-
  What the earlier layers' tail computes for one block of 512 rows, read at a row and a column: no closing normalisation.
-/
module

public import proofs.«01_k».proof.Proof.Gen.Kernel4Ideal.Frame
public import proofs.«01_k».proof.Proof.Block
public import Idealize.ShloMosaic.Lib.Pipeline.Value

@[expose] public section

noncomputable section

namespace Cert.Kernel4Ideal.Block

open Cert.Kernel4Ideal Cert.Kernel4Ideal.Gen Cert.Row Idealize.ShloMosaic
open Cert.KernelIdeal.Block (pick heads_eq_pick col0 col1 col2 col3)
open scoped BigOperators

/-- The queries. -/
theorem query_apply (x : Vec Ideal S1x512x1024 .f32) (g : Vec Ideal S1x1024 .f32) (wq : Vec Ideal S1024x1024 .bf16)
    (r : Fin 512) (c : Fin 1024) :
    k0_pay3 x g wq (ix2 r c)
      = lin (normed (fun k => x (ix3 0 r k)) (fun k => g (ix2 0 k))) (fun k c => wq (ix2 k c)) c := by
  pointwise [k0_pay3, k0_pay2]
  rfl

/-- The scores of the first two heads. -/
theorem score0_apply (x : Vec Ideal S1x512x1024 .f32) (g : Vec Ideal S1x1024 .f32) (wq : Vec Ideal S1024x1024 .bf16)
    (k : Vec Ideal S1x256x256 .bf16) (r : Fin 512) (m : Fin 256) :
    k0_pay4 x g wq k (ix2 r m) = scores (fun e => k0_pay3 x g wq (ix2 r (col 0 e))) (fun m e => k (ix3 0 m e)) m := by
  generalize hq : k0_pay3 x g wq = q
  unfold k0_pay4
  rw [hq]
  pointwise
  simp only [scores, col0]
  rfl

theorem score1_apply (x : Vec Ideal S1x512x1024 .f32) (g : Vec Ideal S1x1024 .f32) (wq : Vec Ideal S1024x1024 .bf16)
    (k : Vec Ideal S1x256x256 .bf16) (r : Fin 512) (m : Fin 256) :
    k0_pay5 x g wq k (ix2 r m) = scores (fun e => k0_pay3 x g wq (ix2 r (col 1 e))) (fun m e => k (ix3 0 m e)) m := by
  generalize hq : k0_pay3 x g wq = q
  unfold k0_pay5
  rw [hq]
  pointwise
  simp only [scores, col1]
  rfl

/-- The exponentials of the third and the fourth head. -/
theorem expo2_apply (x : Vec Ideal S1x512x1024 .f32) (g : Vec Ideal S1x1024 .f32) (wq : Vec Ideal S1024x1024 .bf16)
    (k : Vec Ideal S1x256x256 .bf16) (r : Fin 512) (m : Fin 256) :
    k0_pay7 (k0_pay6 x g wq) k (ix2 r m)
      = expo (scores (fun e => k0_pay3 x g wq (ix2 r (col 2 e))) (fun m e => k (ix3 0 m e))) m := by
  generalize hq : k0_pay3 x g wq = q
  unfold k0_pay7 k0_pay6
  rw [hq]
  pointwise
  simp only [scores, col2, expo, top]
  rfl

theorem expo3_apply (q : Vec Ideal S512x1024 .bf16) (k : Vec Ideal S1x256x256 .bf16) (r : Fin 512) (m : Fin 256) :
    k0_pay8 q k (ix2 r m) = expo (scores (fun e => q (ix2 r (col 3 e))) (fun m e => k (ix3 0 m e))) m := by
  unfold k0_pay8
  pointwise
  simp only [scores, col3, expo, top]
  rfl

/-- The softmax of the first two heads, from their scores. -/
theorem soft0_apply (s : Vec Ideal S512x256 .f32) (r : Fin 512) (m : Fin 256) :
    k0_pay9 (F := Ideal) s (ix2 r m) = softRecip (fun m => s (ix2 r m)) m := by
  unfold k0_pay9
  pointwise
  simp only [softRecip, expo, top, Ideal.ofBits_one_f32]
  rfl

theorem soft1_apply (s : Vec Ideal S512x256 .f32) (r : Fin 512) (m : Fin 256) :
    k0_pay10 (F := Ideal) s (ix2 r m) = softRecip (fun m => s (ix2 r m)) m := by
  unfold k0_pay10
  pointwise
  simp only [softRecip, expo, top, Ideal.ofBits_one_f32]
  rfl

/-- The sum of the third head's exponentials. -/
theorem sum2_apply (q : Vec Ideal S512x256 .bf16) (k : Vec Ideal S1x256x256 .bf16) (r : Fin 512) :
    k0_pay11 q k (ix1 r) = ∑ m, k0_pay7 q k (ix2 r m) := by
  unfold k0_pay11
  pointwise

/-- The row after the attention: the four heads' values, weighted, side by side, times the output weights. -/
theorem attn_apply (x1 : FVec Ideal S512x1024 .f32) (e2 e3 p0 p1 : FVec Ideal S512x256 .f32) (s2 : FVec Ideal S512 .f32)
    (v0 v1 v2 v3 : Vec Ideal S1x256x256 .bf16) (wo : Vec Ideal S1024x1024 .bf16) (r : Fin 512) (d : Fin 1024) :
    k0_pay12 x1 e2 e3 p0 p1 s2 v0 v1 v2 v3 wo (ix2 r d)
      = x1 (ix2 r d) + lin (pick (fun e => ∑ m, p0 (ix2 r m) * v0 (ix3 0 m e)) (fun e => ∑ m, p1 (ix2 r m) * v1 (ix3 0 m e))
          (fun e => ∑ m, e2 (ix2 r m) * Ideal.div 1 (s2 (ix1 r)) * v2 (ix3 0 m e))
          (fun e => ∑ m, e3 (ix2 r m) * Ideal.div 1 (∑ m', e3 (ix2 r m')) * v3 (ix3 0 m e))) (fun k d => wo (ix2 k d)) d := by
  unfold k0_pay12
  pointwise
  rfl

/-- The row normalised again. -/
theorem normed_apply (x1 : FVec Ideal S512x1024 .f32) (g : FVec Ideal S1x1024 .f32) (r : Fin 512) (d : Fin 1024) :
    k0_pay26 x1 g (k0_pay25 x1) (ix2 r d) = normed (fun k => x1 (ix2 r k)) (fun k => g (ix2 0 k)) d := by
  unfold k0_pay26 k0_pay25
  pointwise
  rfl

/-- The first two quarters of the MLP, added to the row. -/
theorem quarters01_apply (x1 : FVec Ideal S512x1024 .f32) (g : FVec Ideal S1x1024 .f32) (sq : FVec Ideal S512x1024 .f32)
    (a0 b0 a1 b1 : Vec Ideal S1024x1024 .bf16) (r : Fin 512) (d : Fin 1024) :
    k0_pay27 x1 g sq a0 b0 a1 b1 (ix2 r d)
      = x1 (ix2 r d) + (∑ k, sqRelu (lin (fun k => k0_pay26 x1 g sq (ix2 r k)) (fun k j => a0 (ix2 k j)) k) * b0 (ix2 k d))
        + ∑ k, sqRelu (lin (fun k => k0_pay26 x1 g sq (ix2 r k)) (fun k j => a1 (ix2 k j)) k) * b1 (ix2 k d) := by
  unfold k0_pay27
  generalize k0_pay26 x1 g sq = h
  pointwise
  rfl

/-- The hidden units of the third quarter. -/
theorem hidden2_apply (x1 : FVec Ideal S512x1024 .f32) (g : FVec Ideal S1x1024 .f32) (sq : FVec Ideal S512x1024 .f32)
    (a2 : Vec Ideal S1024x1024 .bf16) (r : Fin 512) (d : Fin 1024) :
    k0_pay28 x1 g sq a2 (ix2 r d) = sqRelu (lin (fun k => k0_pay26 x1 g sq (ix2 r k)) (fun k j => a2 (ix2 k j)) d) := by
  unfold k0_pay28
  generalize k0_pay26 x1 g sq = h
  pointwise
  rfl

/-- The last two quarters. -/
theorem out_apply (h m u : FVec Ideal S512x1024 .f32) (b2 a3 b3 : Vec Ideal S1024x1024 .bf16) (r : Fin 512) (d : Fin 1024) :
    k0_pay29 (F := Ideal) h m u b2 a3 b3 (ix3 0 r d)
      = m (ix2 r d) + (∑ k, u (ix2 r k) * b2 (ix2 k d))
          + ∑ k, sqRelu (lin (fun k => h (ix2 r k)) (fun k j => a3 (ix2 k j)) k) * b3 (ix2 k d) := by
  unfold k0_pay29
  pointwise
  rfl

/-- What the body stores for a block of 512 rows, from its loads. -/
def half (x : Vec Ideal S1x512x1024 .f32) (g : Vec Ideal S1x1024 .f32) (wq : Vec Ideal S1024x1024 .bf16)
    (k0 k1 k2 k3 v0 v1 v2 v3 : Vec Ideal S1x256x256 .bf16) (wo : Vec Ideal S1024x1024 .bf16) (g2 : Vec Ideal S1x1024 .f32)
    (a0 b0 a1 b1 a2 b2 a3 b3 : Vec Ideal S1024x1024 .bf16) : Vec Ideal S1x512x1024 .f32 :=
  let x1 := k0_pay12 (k0_pay2 x) (k0_pay7 (k0_pay6 x g wq) k2) (k0_pay8 (k0_pay3 x g wq) k3) (k0_pay9 (k0_pay4 x g wq k0))
    (k0_pay10 (k0_pay5 x g wq k1)) (k0_pay11 (k0_pay6 x g wq) k2) v0 v1 v2 v3 wo
  k0_pay29 (k0_pay26 x1 (k0_pay24 g2) (k0_pay25 x1)) (k0_pay27 x1 (k0_pay24 g2) (k0_pay25 x1) a0 b0 a1 b1)
    (k0_pay28 x1 (k0_pay24 g2) (k0_pay25 x1) a2) b2 a3 b3

/-- A stored block, row by row. -/
theorem half_apply (x : Vec Ideal S1x512x1024 .f32) (g : Vec Ideal S1x1024 .f32) (wq : Vec Ideal S1024x1024 .bf16)
    (k0 k1 k2 k3 v0 v1 v2 v3 : Vec Ideal S1x256x256 .bf16) (wo : Vec Ideal S1024x1024 .bf16) (g2 : Vec Ideal S1x1024 .f32)
    (a0 b0 a1 b1 a2 b2 a3 b3 : Vec Ideal S1024x1024 .bf16)
    (kv : Fin 256 → Fin 2048 → EReal) (w1 : Fin 1024 → Fin 4096 → EReal) (w2 : Fin 4096 → Fin 1024 → EReal)
    (hk0 : ∀ m e, k0 (ix3 0 m e) = kv m (kcol 0 e)) (hk1 : ∀ m e, k1 (ix3 0 m e) = kv m (kcol 1 e))
    (hk2 : ∀ m e, k2 (ix3 0 m e) = kv m (kcol 2 e)) (hk3 : ∀ m e, k3 (ix3 0 m e) = kv m (kcol 3 e))
    (hv0 : ∀ m e, v0 (ix3 0 m e) = kv m (vcol 0 e)) (hv1 : ∀ m e, v1 (ix3 0 m e) = kv m (vcol 1 e))
    (hv2 : ∀ m e, v2 (ix3 0 m e) = kv m (vcol 2 e)) (hv3 : ∀ m e, v3 (ix3 0 m e) = kv m (vcol 3 e))
    (ha0 : ∀ k j, a0 (ix2 k j) = w1 k (unit 0 j)) (ha1 : ∀ k j, a1 (ix2 k j) = w1 k (unit 1 j))
    (ha2 : ∀ k j, a2 (ix2 k j) = w1 k (unit 2 j)) (ha3 : ∀ k j, a3 (ix2 k j) = w1 k (unit 3 j))
    (hb0 : ∀ j d, b0 (ix2 j d) = w2 (unit 0 j) d) (hb1 : ∀ j d, b1 (ix2 j d) = w2 (unit 1 j) d)
    (hb2 : ∀ j d, b2 (ix2 j d) = w2 (unit 2 j) d) (hb3 : ∀ j d, b3 (ix2 j d) = w2 (unit 3 j) d)
    (r : Fin 512) (d : Fin 1024) :
    half x g wq k0 k1 k2 k3 v0 v1 v2 v3 wo g2 a0 b0 a1 b1 a2 b2 a3 b3 (ix3 0 r d)
      = innerRow softRecip (fun k => x (ix3 0 r k)) (fun k => g (ix2 0 k)) kv (fun k c => wq (ix2 k c)) (fun k c => wo (ix2 k c))
          (fun k => g2 (ix2 0 k)) w1 w2 d := by
  have hx1 : ∀ d, k0_pay12 (k0_pay2 x) (k0_pay7 (k0_pay6 x g wq) k2) (k0_pay8 (k0_pay3 x g wq) k3) (k0_pay9 (k0_pay4 x g wq k0))
      (k0_pay10 (k0_pay5 x g wq k1)) (k0_pay11 (k0_pay6 x g wq) k2) v0 v1 v2 v3 wo (ix2 r d)
      = afterAttn softRecip (fun k => x (ix3 0 r k)) (fun k => g (ix2 0 k)) kv (fun k c => wq (ix2 k c)) (fun k c => wo (ix2 k c)) d := by
    intro d
    rw [attn_apply]
    unfold afterAttn
    rw [heads_eq_pick]
    simp only [soft0_apply, soft1_apply, score0_apply, score1_apply, expo2_apply, expo3_apply, sum2_apply, query_apply,
      hk0, hk1, hk2, hk3, hv0, hv1, hv2, hv3]
    have e : k0_pay2 x (ix2 r d) = x (ix3 0 r d) := by pointwise [k0_pay2]
    rw [e]
    rfl
  have hg2 : ∀ k, k0_pay24 g2 (ix2 0 k) = g2 (ix2 0 k) := fun k => by pointwise [k0_pay24]
  unfold half
  generalize k0_pay12 (k0_pay2 x) (k0_pay7 (k0_pay6 x g wq) k2) (k0_pay8 (k0_pay3 x g wq) k3) (k0_pay9 (k0_pay4 x g wq k0))
      (k0_pay10 (k0_pay5 x g wq k1)) (k0_pay11 (k0_pay6 x g wq) k2) v0 v1 v2 v3 wo = x1 at hx1
  rw [out_apply]
  simp only [quarters01_apply, hidden2_apply, normed_apply, hx1, hg2, ha0, ha1, ha2, ha3, hb0, hb1, hb2, hb3]
  unfold innerRow
  rw [afterMlp_quarters]
  rfl

/-- The tail, without the closing normalisation, of every row of a block of 1024. -/
def rows (x0 : Vec Ideal S1x1024x1024 .f32) (x1 : Vec Ideal S1x1024 .f32) (x2 : Vec Ideal S1x256x2048 .bf16)
    (x3 x4 : Vec Ideal S1024x1024 .bf16) (x5 : Vec Ideal S1x1024 .f32) (x6 : Vec Ideal S1024x4096 .bf16)
    (x7 : Vec Ideal S4096x1024 .bf16) : Vec Ideal S1x1024x1024 .f32 := fun y =>
  innerRow softRecip (fun k => x0 (ix3 0 (y 1) k)) (fun k => x1 (ix2 0 k)) (fun m c => x2 (ix3 0 m c))
    (fun k c => x3 (ix2 k c)) (fun k c => x4 (ix2 k c)) (fun k => x5 (ix2 0 k)) (fun k j => x6 (ix2 k j))
    (fun j d => x7 (ix2 j d)) (y 2)

/-- An index of a block of 512 rows, by its row and column. -/
theorem exists_row (j : S1x512x1024.Idx) : ∃ (r : Fin 512) (d : Fin 1024), j = ix3 0 r d := by
  refine ⟨j 1, j 2, funext fun a => ?_⟩
  match a with
  | ⟨0, _⟩ => exact Fin.ext (Nat.lt_one_iff.mp (j 0).isLt)
  | ⟨1, _⟩ => rfl
  | ⟨2, _⟩ => rfl

/-- Loading a whole scale row gives the row. -/
theorem ld_row (g : Vec Ideal S1x1024 .f32) : View.ld g r0_1 = g := View.ld_unit_zero (by funext a; match a with | 0 => rfl | 1 => rfl) _ g

/-- Loading a whole square weight gives the weight. -/
theorem ld_square (w : Vec Ideal S1024x1024 .bf16) : View.ld w r0_2 = w := View.ld_unit_zero (by funext a; match a with | 0 => rfl | 1 => rfl) _ w

/-- A stored block, when the weights, keys and values are loaded in their pieces. -/
theorem half_loads (x0 : Vec Ideal S1x1024x1024 .f32) (x1 : Vec Ideal S1x1024 .f32) (x2 : Vec Ideal S1x256x2048 .bf16)
    (x3 x4 : Vec Ideal S1024x1024 .bf16) (x5 : Vec Ideal S1x1024 .f32) (x6 : Vec Ideal S1024x4096 .bf16)
    (x7 : Vec Ideal S4096x1024 .bf16) (x : Vec Ideal S1x512x1024 .f32) (r : Fin 512) (d : Fin 1024) :
    half x (View.ld x1 r0_1) (View.ld x3 r0_2) (View.ld x2 r0_3) (View.ld x2 r0_4) (View.ld x2 r0_5)
      (View.ld x2 r0_6) (View.ld x2 r0_7) (View.ld x2 r0_8) (View.ld x2 r0_9) (View.ld x2 r0_10) (View.ld x4 r0_2) (View.ld x5 r0_1)
      (View.ld x6 r0_12) (View.ld x7 r0_13) (View.ld x6 r0_14) (View.ld x7 r0_15) (View.ld x6 r0_16) (View.ld x7 r0_17)
      (View.ld x6 r0_18) (View.ld x7 r0_19) (ix3 0 r d)
      = innerRow softRecip (fun k => x (ix3 0 r k)) (fun k => x1 (ix2 0 k)) (fun m c => x2 (ix3 0 m c))
          (fun k c => x3 (ix2 k c)) (fun k c => x4 (ix2 k c)) (fun k => x5 (ix2 0 k)) (fun k j => x6 (ix2 k j))
          (fun j d => x7 (ix2 j d)) d := by
  rw [ld_row x1, ld_square x3, ld_square x4, ld_row x5, half_apply (kv := fun m c => x2 (ix3 0 m c)) (w1 := fun k j => x6 (ix2 k j)) (w2 := fun j d => x7 (ix2 j d))]
  all_goals intro a b; pointwise
  all_goals first
    | exact congrArg (fun i => x2 (ix3 0 a i)) (Fin.ext (by simp [kcol, vcol]; try omega))
    | exact congrArg (fun i => x6 (ix2 a i)) (Fin.ext (by simp [unit]; try omega))
    | exact congrArg (fun i => x7 (ix2 i b)) (Fin.ext (by simp [unit]; try omega))

/-- One block of 1024 rows: every row is the layer's tail of that row. -/
theorem out_row (x0 : Vec Ideal S1x1024x1024 .f32) (x1 : Vec Ideal S1x1024 .f32) (x2 : Vec Ideal S1x256x2048 .bf16)
    (x3 x4 : Vec Ideal S1024x1024 .bf16) (x5 : Vec Ideal S1x1024 .f32) (x6 : Vec Ideal S1024x4096 .bf16)
    (x7 : Vec Ideal S4096x1024 .bf16) (x8 : Vec Ideal S1x1024 .f32) (y : S1x1024x1024.Idx) :
    out0_9 x0 x1 x2 x3 x4 x5 x6 x7 x8 y
      = rows x0 x1 x2 x3 x4 x5 x6 x7 y := by
  unfold_out out0_9
  refine View.canon_apply_of_pieces (rows x0 x1 x2 x3 x4 x5 x6 x7) _ (fun p hp j => ?_) y (cover0_9 _ _ y)
  simp only [List.mem_cons, List.mem_nil_iff, or_false] at hp
  rcases hp with rfl | rfl
  · obtain ⟨r, d, rfl⟩ := exists_row j
    refine (show _ = half (View.ld x0 r0_11) (View.ld x1 r0_1) (View.ld x3 r0_2) (View.ld x2 r0_3) (View.ld x2 r0_4) (View.ld x2 r0_5)
      (View.ld x2 r0_6) (View.ld x2 r0_7) (View.ld x2 r0_8) (View.ld x2 r0_9) (View.ld x2 r0_10) (View.ld x4 r0_2) (View.ld x5 r0_1)
      (View.ld x6 r0_12) (View.ld x7 r0_13) (View.ld x6 r0_14) (View.ld x7 r0_15) (View.ld x6 r0_16) (View.ld x7 r0_17)
      (View.ld x6 r0_18) (View.ld x7 r0_19) (ix3 0 r d) from rfl).trans ?_
    rw [half_loads x0 x1 x2 x3 x4 x5 x6 x7]
    have e : ∀ k : Fin 1024, r0_11.emb (ix3 0 r k) = ix3 0 ⟨512 + r.val, by omega⟩ k := fun k =>
      Rect.emb_eq_of_coords _ _ _ (fun a => by
        match a with
        | ⟨0, _⟩ => exact (rfl : (0 : ℕ) = 0 + 1 * 0)
        | ⟨1, _⟩ => exact (by omega : 512 + r.val = 512 + 1 * r.val)
        | ⟨2, _⟩ => exact (by omega : k.val = 0 + 1 * k.val))
    have ex : ∀ k : Fin 1024, View.ld x0 r0_11 (ix3 0 r k) = x0 (ix3 0 ⟨512 + r.val, by omega⟩ k) := fun k => congrArg x0 (e k)
    refine Eq.trans ?_ (congrArg (rows x0 x1 x2 x3 x4 x5 x6 x7) (e d)).symm
    unfold rows
    simp only [ex]
    rfl
  · obtain ⟨r, d, rfl⟩ := exists_row j
    refine (show _ = half (View.ld x0 r0_0) (View.ld x1 r0_1) (View.ld x3 r0_2) (View.ld x2 r0_3) (View.ld x2 r0_4) (View.ld x2 r0_5)
      (View.ld x2 r0_6) (View.ld x2 r0_7) (View.ld x2 r0_8) (View.ld x2 r0_9) (View.ld x2 r0_10) (View.ld x4 r0_2) (View.ld x5 r0_1)
      (View.ld x6 r0_12) (View.ld x7 r0_13) (View.ld x6 r0_14) (View.ld x7 r0_15) (View.ld x6 r0_16) (View.ld x7 r0_17)
      (View.ld x6 r0_18) (View.ld x7 r0_19) (ix3 0 r d) from rfl).trans ?_
    rw [half_loads x0 x1 x2 x3 x4 x5 x6 x7]
    have e : ∀ k : Fin 1024, r0_0.emb (ix3 0 r k) = ix3 0 ⟨r.val, by omega⟩ k := fun k =>
      Rect.emb_eq_of_coords _ _ _ (fun a => by
        match a with
        | ⟨0, _⟩ => exact (rfl : (0 : ℕ) = 0 + 1 * 0)
        | ⟨1, _⟩ => exact (by omega : r.val = 0 + 1 * r.val)
        | ⟨2, _⟩ => exact (by omega : k.val = 0 + 1 * k.val))
    have ex : ∀ k : Fin 1024, View.ld x0 r0_0 (ix3 0 r k) = x0 (ix3 0 ⟨r.val, by omega⟩ k) := fun k => congrArg x0 (e k)
    refine Eq.trans ?_ (congrArg (rows x0 x1 x2 x3 x4 x5 x6 x7) (e d)).symm
    unfold rows
    simp only [ex]
    rfl

end Cert.Kernel4Ideal.Block

end
-- ==== Proof.InnerArray.lean ====
/-
  What the earlier layers' tail leaves in its result array: every row is the tail of that row, without the closing normalisation.
-/
module

public import proofs.«01_k».proof.Proof.Gen.Kernel4Ideal.Value
public import proofs.«01_k».proof.Proof.InnerBlock
public import Idealize.ShloMosaic.Lib.Pipeline.ValueKit
public import Idealize.ShloMosaic.Lib.Claim

@[expose] public section

noncomputable section

namespace Cert.Kernel4Ideal.Array

open Cert.Kernel4Ideal Cert.Kernel4Ideal.Gen Cert.Kernel4Ideal.Block Cert.Row Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The result of eight arguments, index by index, with the softmax left open. -/
def value (S : (Fin 256 → EReal) → Fin 256 → EReal) (x : Vec Ideal S8x4096x1024 .f32) (g : Vec Ideal S1024 .f32)
    (kv : Vec Ideal S8x256x2048 .bf16) (wq wo : Vec Ideal S1024x1024 .f32) (g2 : Vec Ideal S1024 .f32)
    (w1 : Vec Ideal S1024x4096 .f32) (w2 : Vec Ideal S4096x1024 .f32) : Vec Ideal S8x4096x1024 .f32 :=
  fun i => innerRow S (fun k => x (ix3 (i 0) (i 1) k)) (fun k => g (ix1 k)) (fun j e => kv (ix3 (i 0) j e))
    (fun k c => wq (ix2 k c)) (fun k c => wo (ix2 k c)) (fun k => g2 (ix1 k)) (fun k j => w1 (ix2 k j)) (fun j d => w2 (ix2 j d)) (i 2)

/-- What the kernel leaves in its result array. -/
abbrev result (c : Dev nD) : Buf (Elt Ideal) ((c : Thread nD τ).loc main_v7) :=
  value softRecip (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- A vector laid out as one row. -/
theorem row_apply (x : Vec Ideal S1024 .f32) (k : Fin 1024) : shapeCast S1x1024 x shapeCasts_S1024_S1x1024 (ix2 0 k) = x (ix1 k) := by
  pointwise

/-! ## The arrays the blocks are cut from: the arguments, re-laid or in another format -/

/-- The attention's normalisation's weights as a row. -/
theorem V_main_v0 (c : Dev nD) (k : Fin 1024) :
    (V m c main_v0 : Vec Ideal S1x1024 .f32) (ix2 0 k) = (m ((c : Thread nD τ).loc main_arg1) : Vec Ideal S1024 .f32) (ix1 k) := by
  show StableHlo.after hostOps0 (fun b => m (c, b)) (Proc.devRef .tc main_v0) (ix2 0 k) = _
  after_results
  exact row_apply (m ((c : Thread nD τ).loc main_arg1)) k

/-- The MLP's normalisation's weights as a row. -/
theorem V_main_v3 (c : Dev nD) (k : Fin 1024) :
    (V m c main_v3 : Vec Ideal S1x1024 .f32) (ix2 0 k) = (m ((c : Thread nD τ).loc main_arg5) : Vec Ideal S1024 .f32) (ix1 k) := by
  show StableHlo.after hostOps0 (fun b => m (c, b)) (Proc.devRef .tc main_v3) (ix2 0 k) = _
  after_results
  exact row_apply (m ((c : Thread nD τ).loc main_arg5)) k

/-- The query weights in the products' format. -/
theorem V_main_v1 (c : Dev nD) (k : Fin 1024) (j : Fin 1024) :
    (V m c main_v1 : Vec Ideal S1024x1024 .bf16) (ix2 k j) = (m ((c : Thread nD τ).loc main_arg3) : Vec Ideal S1024x1024 .f32) (ix2 k j) := by
  show StableHlo.after hostOps0 (fun b => m (c, b)) (Proc.devRef .tc main_v1) (ix2 k j) = _
  after_results
  rfl

/-- The output weights in the products' format. -/
theorem V_main_v2 (c : Dev nD) (k : Fin 1024) (j : Fin 1024) :
    (V m c main_v2 : Vec Ideal S1024x1024 .bf16) (ix2 k j) = (m ((c : Thread nD τ).loc main_arg4) : Vec Ideal S1024x1024 .f32) (ix2 k j) := by
  show StableHlo.after hostOps0 (fun b => m (c, b)) (Proc.devRef .tc main_v2) (ix2 k j) = _
  after_results
  rfl

/-- The MLP's first weights in the products' format. -/
theorem V_main_v4 (c : Dev nD) (k : Fin 1024) (j : Fin 4096) :
    (V m c main_v4 : Vec Ideal S1024x4096 .bf16) (ix2 k j) = (m ((c : Thread nD τ).loc main_arg6) : Vec Ideal S1024x4096 .f32) (ix2 k j) := by
  show StableHlo.after hostOps0 (fun b => m (c, b)) (Proc.devRef .tc main_v4) (ix2 k j) = _
  after_results
  rfl

/-- The MLP's second weights in the products' format. -/
theorem V_main_v5 (c : Dev nD) (k : Fin 4096) (j : Fin 1024) :
    (V m c main_v5 : Vec Ideal S4096x1024 .bf16) (ix2 k j) = (m ((c : Thread nD τ).loc main_arg7) : Vec Ideal S4096x1024 .f32) (ix2 k j) := by
  show StableHlo.after hostOps0 (fun b => m (c, b)) (Proc.devRef .tc main_v5) (ix2 k j) = _
  after_results
  rfl

/-! ## The blocks at coordinates -/

theorem index0 : ∀ t : Fin cfg0.N, win0_0.index t = ![(grid0.coords t 0).val, (grid0.coords t 1).val, 0] :=
  (by decide +kernel : ∀ t : Fin grid0.N, _)
theorem index2 : ∀ t : Fin cfg0.N, win0_2.index t = ![(grid0.coords t 0).val, 0, 0] :=
  (by decide +kernel : ∀ t : Fin grid0.N, _)
theorem index9 : ∀ t : Fin cfg0.N, win0_9.index t = ![(grid0.coords t 0).val, (grid0.coords t 1).val, 0] :=
  (by decide +kernel : ∀ t : Fin grid0.N, _)
theorem index1 : ∀ t : Fin cfg0.N, win0_1.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)

/-- A grid point's batch entry, and the place of its block's row `r` in the sequence. -/
def entry (t : Fin cfg0.N) : Fin 8 := grid0.coords t 0
def place (t : Fin cfg0.N) (r : Fin 1024) : Fin 4096 :=
  ⟨(grid0.coords t 1).val * 1024 + r.val, by have h : (grid0.coords t 1).val < 4 := (grid0.coords t 1).isLt; omega⟩

theorem iblk0_apply (c : Dev nD) (t : Fin cfg0.N) (r k : Fin 1024) :
    (iblk m c 0 t : Vec Ideal S1x1024x1024 .f32) (ix3 0 r k)
      = (m ((c : Thread nD τ).loc main_arg0) : Vec Ideal S8x4096x1024 .f32) (ix3 (entry t) (place t r) k) := by
  refine Eq.trans ?_ (congrFun (V_main_arg0 m c) (ix3 (entry t) (place t r) k))
  blk_simp [iblk]
  refine congrArg (V m c main_arg0) (funext fun a => Fin.ext ?_)
  match a with
  | ⟨0, _⟩ => blk_simp [index0]; exact Nat.add_zero _
  | ⟨1, _⟩ => blk_simp [index0]; rfl
  | ⟨2, _⟩ => blk_simp [index0]

theorem iblk2_apply (c : Dev nD) (t : Fin cfg0.N) (j : Fin 256) (e : Fin 2048) :
    (iblk m c 2 t : Vec Ideal S1x256x2048 .bf16) (ix3 0 j e)
      = (m ((c : Thread nD τ).loc main_arg2) : Vec Ideal S8x256x2048 .bf16) (ix3 (entry t) j e) := by
  refine Eq.trans ?_ (congrFun (V_main_arg2 m c) (ix3 (entry t) j e))
  blk_simp [iblk]
  refine congrArg (V m c main_arg2) (funext fun a => Fin.ext ?_)
  match a with
  | ⟨0, _⟩ => blk_simp [index2]; exact Nat.add_zero _
  | ⟨1, _⟩ => blk_simp [index2]
  | ⟨2, _⟩ => blk_simp [index2]

theorem iblk1_eq (c : Dev nD) (t : Fin cfg0.N) : iblk m c 1 t = V m c main_v0 := by
  funext y
  blk_simp [iblk]
  refine congrArg (V m c main_v0) (funext fun a => Fin.ext ?_)
  match a with
  | ⟨0, _⟩ => blk_simp [index1]
  | ⟨1, _⟩ => blk_simp [index1]

theorem iblk3_eq (c : Dev nD) (t : Fin cfg0.N) : iblk m c 3 t = V m c main_v1 := by
  funext y
  blk_simp [iblk]
  refine congrArg (V m c main_v1) (funext fun a => Fin.ext ?_)
  match a with
  | ⟨0, _⟩ => blk_simp [index3]
  | ⟨1, _⟩ => blk_simp [index3]

theorem iblk4_eq (c : Dev nD) (t : Fin cfg0.N) : iblk m c 4 t = V m c main_v2 := by
  funext y
  blk_simp [iblk]
  refine congrArg (V m c main_v2) (funext fun a => Fin.ext ?_)
  match a with
  | ⟨0, _⟩ => blk_simp [index4]
  | ⟨1, _⟩ => blk_simp [index4]

theorem iblk5_eq (c : Dev nD) (t : Fin cfg0.N) : iblk m c 5 t = V m c main_v3 := by
  funext y
  blk_simp [iblk]
  refine congrArg (V m c main_v3) (funext fun a => Fin.ext ?_)
  match a with
  | ⟨0, _⟩ => blk_simp [index5]
  | ⟨1, _⟩ => blk_simp [index5]

theorem iblk6_eq (c : Dev nD) (t : Fin cfg0.N) : iblk m c 6 t = V m c main_v4 := by
  funext y
  blk_simp [iblk]
  refine congrArg (V m c main_v4) (funext fun a => Fin.ext ?_)
  match a with
  | ⟨0, _⟩ => blk_simp [index6]
  | ⟨1, _⟩ => blk_simp [index6]

theorem iblk7_eq (c : Dev nD) (t : Fin cfg0.N) : iblk m c 7 t = V m c main_v5 := by
  funext y
  blk_simp [iblk]
  refine congrArg (V m c main_v5) (funext fun a => Fin.ext ?_)
  match a with
  | ⟨0, _⟩ => blk_simp [index7]
  | ⟨1, _⟩ => blk_simp [index7]

/-- An index of a block of 1024 rows, by its row and column. -/
theorem exists_row (y : S1x1024x1024.Idx) : ∃ r d : Fin 1024, y = ix3 0 r d := by
  refine ⟨y 1, y 2, funext fun a => ?_⟩
  match a with
  | ⟨0, _⟩ => exact Fin.ext (Nat.lt_one_iff.mp (y 0).isLt)
  | ⟨1, _⟩ => rfl
  | ⟨2, _⟩ => rfl

theorem emb9 (t : Fin cfg0.N) (r d : Fin 1024) : (win0_9.blk t).view.emb (ix3 0 r d) = ix3 (entry t) (place t r) d := by
  refine funext fun a => Fin.ext ?_
  match a with
  | ⟨0, _⟩ => blk_simp [index9]; exact Nat.add_zero _
  | ⟨1, _⟩ => blk_simp [index9]; rfl
  | ⟨2, _⟩ => blk_simp [index9]

/-! ## The array -/

/-- After the last grid point the result array is `result`. -/
theorem final (c : Dev nD) : (dats m 0 c).arrAt 9 cfg0.N = result m c := by
  refine (dats m 0 c).arrAt_eq_of_covers 9 _ (by decide +kernel) fun t hf y => ?_
  obtain ⟨r, d, rfl⟩ := exists_row y
  blk_simp
  rw [after0_9, out_row, emb9]
  show innerRow softRecip (fun k => iblk m c 0 t (ix3 0 r k)) (fun k => iblk m c 1 t (ix2 0 k)) (fun j e => iblk m c 2 t (ix3 0 j e))
    (fun k j => iblk m c 3 t (ix2 k j)) (fun k j => iblk m c 4 t (ix2 k j)) (fun k => iblk m c 5 t (ix2 0 k))
    (fun k j => iblk m c 6 t (ix2 k j)) (fun k j => iblk m c 7 t (ix2 k j)) d = _
  have e0 := funext fun k => iblk0_apply m c t r k
  have e2 := funext fun j => funext fun e => iblk2_apply m c t j e
  have e1 := funext fun k => (congrFun (iblk1_eq m c t) (ix2 0 k)).trans (V_main_v0 m c k)
  have e3 := funext fun k => funext fun j => (congrFun (iblk3_eq m c t) (ix2 k j)).trans (V_main_v1 m c k j)
  have e4 := funext fun k => funext fun j => (congrFun (iblk4_eq m c t) (ix2 k j)).trans (V_main_v2 m c k j)
  have e5 := funext fun k => (congrFun (iblk5_eq m c t) (ix2 0 k)).trans (V_main_v3 m c k)
  have e6 := funext fun k => funext fun j => (congrFun (iblk6_eq m c t) (ix2 k j)).trans (V_main_v4 m c k j)
  have e7 := funext fun k => funext fun j => (congrFun (iblk7_eq m c t) (ix2 k j)).trans (V_main_v5 m c k j)
  rw [e0, e1, e2, e3, e4, e5, e6, e7]
  rfl

/-- The run: the result array is `result`, the arguments as launched. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.Kernel4Ideal.Array

end
-- ==== Proof.InnerRef.lean ====
/-
  What the reference of the earlier layers' tail computes, read at a row and a column.
-/
module

public import proofs.«01_k».proof.Proof.Gen.Reference4Ideal.Read
public import proofs.«01_k».proof.Proof.RefValue
public import Idealize.ShloMosaic.Lib.Pointwise
public import Idealize.ShloMosaic.Lib.KernelVsHost

@[expose] public section

noncomputable section

namespace Cert.Reference4Ideal.Row

open Cert.Reference4Ideal Cert.Reference4Ideal.Read Cert.Row Idealize.ShloMosaic
open scoped BigOperators

variable (x0 : FVec Ideal S8x4096x1024 .f32) (x1 : FVec Ideal S1024 .f32) (x2 : FVec Ideal S8x256x2048 .bf16)
  (x3 x4 : FVec Ideal S1024x1024 .f32) (x5 : FVec Ideal S1024 .f32) (x6 : FVec Ideal S1024x4096 .f32)
  (x7 : FVec Ideal S4096x1024 .f32)

/-- The row normalised, before the attention. -/
theorem v12_apply (b : Fin 8) (s : Fin 4096) (d : Fin 1024) :
    val_main_v12 (F := Ideal) x0 x1 (ix3 b s d) = normed (fun k => x0 (ix3 b s k)) (fun k => x1 (ix1 k)) d := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

/-- The queries. -/
theorem v14_apply (b : Fin 8) (s : Fin 4096) (d : Fin 1024) :
    val_main_v14 (F := Ideal) x0 x1 x3 (ix3 b s d) = lin (fun k => val_main_v12 (F := Ideal) x0 x1 (ix3 b s k)) (fun k c => x3 (ix2 k c)) d := by
  unfold val_main_v14
  generalize val_main_v12 (F := Ideal) x0 x1 = h
  pointwise
  rfl

/-- The scaled scores of each head. -/
theorem v22_apply (b : Fin 8) (h : Fin 4) (s : Fin 4096) (j : Fin 256) :
    val_main_v22 (F := Ideal) x0 x1 x2 x3 (ix4 b h s j)
      = headScores (fun k => val_main_v14 (F := Ideal) x0 x1 x3 (ix3 b s k)) (fun j e => x2 (ix3 b j e)) h j := by
  unfold val_main_v22 val_main_v20 val_main_v15
  generalize val_main_v14 (F := Ideal) x0 x1 x3 = q
  pointwise [val_main_v18, val_main_v16, val_main_v21, val_main_v13, val_main_cst_2]
  unfold headScores scores
  refine congrArg (· * scale) (Finset.sum_congr rfl fun x _ => ?_)
  have e1 : h.val * 256 + x.val = (col h x).val := by unfold col; dsimp only; omega
  have e2 : h.val * 256 + x.val = (kcol h x).val := by unfold kcol; dsimp only; omega
  exact congrArg₂ (fun c c' => q (ix3 b s c) * x2 (ix3 b j c')) (Fin.ext e1) (Fin.ext e2)

/-- The largest score of each row. -/
theorem v23_apply (b : Fin 8) (h : Fin 4) (s : Fin 4096) :
    val_main_v23 (F := Ideal) x0 x1 x2 x3 (ix3 b h s) = top (fun j => val_main_v22 (F := Ideal) x0 x1 x2 x3 (ix4 b h s j)) := by
  unfold val_main_v23 val_main_cst_3
  generalize val_main_v22 (F := Ideal) x0 x1 x2 x3 = q
  refine (congrFun (hostReduce_maximumf_eq_multiReduction (F := Ideal) (s := S8x4x4096x256) (φ := .f32) q 0xFF800000#32 Gen.reducesTo_S8x4x4096x256_S8x4x4096_d3 Gen.h_S_
    ⟨Gen.reducesTo_S8x4x4096x256_S8x4x4096_d3.1, by decide, Gen.reducesTo_S8x4x4096x256_S8x4x4096_d3.2⟩ (Or.inl rfl) rfl) (ix3 b h s)).trans ?_
  pointwise
  rfl

/-- The exponential of a score less the largest of its row. -/
theorem v29_apply (b : Fin 8) (h : Fin 4) (s : Fin 4096) (j : Fin 256) :
    val_main_v29 (F := Ideal) x0 x1 x2 x3 (ix4 b h s j) = expo (fun j => val_main_v22 (F := Ideal) x0 x1 x2 x3 (ix4 b h s j)) j := by
  have e : idx_main_v26 (idx_main_v27 (ix4 b h s j)) = ix3 b h s := by
    funext a
    match a with
    | ⟨0, _⟩ => rfl
    | ⟨1, _⟩ => rfl
    | ⟨2, _⟩ => rfl
  rw [val_main_v29_apply, val_main_v28_apply, val_main_v27_apply, val_main_v26_apply, e, val_main_v25_apply, v23_apply, val_main_v24_apply]
  unfold expo
  conv_rhs => rw [← Cert.ReferenceIdeal.Row.max_least_top]
  rfl

/-- The softmax of each row of scores. -/
theorem v33_apply (b : Fin 8) (h : Fin 4) (s : Fin 4096) (j : Fin 256) :
    val_main_v33 (F := Ideal) x0 x1 x2 x3 (ix4 b h s j) = soft (fun j => val_main_v22 (F := Ideal) x0 x1 x2 x3 (ix4 b h s j)) j := by
  have e : ∀ k, idx_main_v30 (idx_main_v31 (idx_main_v32 (ix4 b h s j))) k = ix4 b h s k := by
    intro k
    funext a
    match a with
    | ⟨0, _⟩ => rfl
    | ⟨1, _⟩ => rfl
    | ⟨2, _⟩ => rfl
    | ⟨3, _⟩ => rfl
  rw [val_main_v33_apply, val_main_v32_apply, val_main_v31_apply, val_main_v30_apply]
  simp only [e, v29_apply]
  have z : val_main_cst_5 (F := Ideal) (Shape.Idx.first Gen.h_S_) = 0 := Ideal.ofBits_zero_f32
  rw [z, zero_add]
  rfl

/-- The heads side by side. -/
theorem v36_apply (b : Fin 8) (s : Fin 4096) (d : Fin 1024) :
    val_main_v36 (F := Ideal) x0 x1 x2 x3 (ix3 b s d)
      = ∑ j, val_main_v33 (F := Ideal) x0 x1 x2 x3 (ix4 b ⟨d.val / 256, by omega⟩ s j)
          * x2 (ix3 b j (vcol ⟨d.val / 256, by omega⟩ ⟨d.val % 256, by omega⟩)) := by
  unfold val_main_v36 val_main_v35 val_main_v34
  generalize val_main_v33 (F := Ideal) x0 x1 x2 x3 = p
  pointwise [val_main_v19, val_main_v17, val_main_v13]
  refine Finset.sum_congr rfl fun j _ => ?_
  rw [mul_comm]
  refine congrArg (fun c => _ * x2 (ix3 b j c)) (Fin.ext ?_)
  show 1024 + d.val = 1024 + (256 * (d.val / 256) + d.val % 256)
  omega

/-- The row after the attention. -/
theorem v38_apply (b : Fin 8) (s : Fin 4096) (d : Fin 1024) :
    val_main_v38 (F := Ideal) x0 x1 x2 x3 x4 (ix3 b s d)
      = x0 (ix3 b s d) + lin (fun k => val_main_v36 (F := Ideal) x0 x1 x2 x3 (ix3 b s k)) (fun k d => x4 (ix2 k d)) d := by
  unfold val_main_v38 val_main_v37
  generalize val_main_v36 (F := Ideal) x0 x1 x2 x3 = p
  pointwise
  rfl

/-- The row normalised again. -/
theorem v51_apply (b : Fin 8) (s : Fin 4096) (d : Fin 1024) :
    val_main_v51 (F := Ideal) x0 x1 x2 x3 x4 x5 (ix3 b s d)
      = normed (fun k => val_main_v38 (F := Ideal) x0 x1 x2 x3 x4 (ix3 b s k)) (fun k => x5 (ix1 k)) d := by
  unfold val_main_v51 val_main_v50 val_main_v49 val_main_v48 val_main_v47 val_main_v46 val_main_v45 val_main_v44 val_main_v43 val_main_v42 val_main_v41
    val_main_v40 val_main_v39
  generalize val_main_v38 (F := Ideal) x0 x1 x2 x3 x4 = p
  pointwise [val_main_cst_6, val_main_cst_7, val_main_cst_8]
  rfl

/-- The row after the MLP. -/
theorem v56_apply (b : Fin 8) (s : Fin 4096) (d : Fin 1024) :
    val_main_v56 (F := Ideal) x0 x1 x2 x3 x4 x5 x6 x7 (ix3 b s d)
      = val_main_v38 (F := Ideal) x0 x1 x2 x3 x4 (ix3 b s d)
        + lin (fun j => sqRelu (lin (fun k => val_main_v51 (F := Ideal) x0 x1 x2 x3 x4 x5 (ix3 b s k)) (fun k j => x6 (ix2 k j)) j)) (fun j d => x7 (ix2 j d)) d := by
  unfold val_main_v56 val_main_v55 val_main_v54 val_main_v53 val_main_v52 val_main_call0_v0
  generalize val_main_v38 (F := Ideal) x0 x1 x2 x3 x4 = p
  generalize val_main_v51 (F := Ideal) x0 x1 x2 x3 x4 x5 = q
  pointwise [val_main_call0_cst]
  rfl

/-- The reference's result: every row is the tail of that row, without the closing normalisation. -/
theorem result_apply (b : Fin 8) (s : Fin 4096) (d : Fin 1024) :
    val_main_v56 (F := Ideal) x0 x1 x2 x3 x4 x5 x6 x7 (ix3 b s d)
      = innerRow soft (fun k => x0 (ix3 b s k)) (fun k => x1 (ix1 k)) (fun j e => x2 (ix3 b j e)) (fun k c => x3 (ix2 k c))
          (fun k c => x4 (ix2 k c)) (fun k => x5 (ix1 k)) (fun k j => x6 (ix2 k j)) (fun j d => x7 (ix2 j d)) d := by
  simp only [v56_apply, v51_apply, v38_apply, v36_apply, v33_apply, v22_apply, v14_apply, v12_apply]
  rfl

end Cert.Reference4Ideal.Row

end
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Array
public import proofs.«01_k».proof.Proof.RefValue
public import proofs.«01_k».proof.Proof.Pre
public import proofs.«01_k».proof.Proof.KvProj
public import proofs.«01_k».proof.Proof.Inproj
public import proofs.«01_k».proof.Proof.InnerArray
public import proofs.«01_k».proof.Proof.InnerRef
public import proofs.«01_k».proof.Proof.Gen.Kernel4.Frame
public import proofs.«01_k».proof.Proof.Gen.Reference4Ideal.Run
public import proofs.«01_k».proof.Proof.Gen.Kernel5.Frame
public import proofs.«01_k».proof.Proof.Gen.Kernel5Ideal.Frame
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's result and the reference's, of the same arguments, index by index. -/
theorem result_eq [Cert.Pre_inputs_finite.Facts] (x0 : FVec Ideal Cert.KernelIdeal.S8x4096x1024 .f32) (x1 : FVec Ideal Cert.KernelIdeal.S1024 .f32)
    (x2 : FVec Ideal Cert.KernelIdeal.S8x256x2048 .bf16) (x3 x4 : FVec Ideal Cert.KernelIdeal.S1024x1024 .f32)
    (x5 : FVec Ideal Cert.KernelIdeal.S1024 .f32) (x6 : FVec Ideal Cert.KernelIdeal.S1024x4096 .f32)
    (x7 : FVec Ideal Cert.KernelIdeal.S4096x1024 .f32) (x8 : FVec Ideal Cert.KernelIdeal.S1024 .f32)
    (h : Cert.Pre_inputs_finite.fn (F := Ideal) x0 x1 x2 x3 x4 x5 x6 x7 x8 = fun _ => 1#1) :
    Cert.ReferenceIdeal.Read.val_main_v69 (F := Ideal) x0 x1 x2 x3 x4 x5 x6 x7 x8
      = Cert.KernelIdeal.Array.value Cert.Row.softRecip x0 x1 x2 x3 x4 x5 x6 x7 x8 := by
  obtain ⟨h0, h1, h2, h3⟩ := Cert.Pre_inputs_finite.reals x0 x1 x2 x3 x4 x5 x6 x7 x8 h
  funext i
  have ei : i = ix3 (i 0) (i 1) (i 2) := by
    funext a
    match a with
    | ⟨0, _⟩ => rfl
    | ⟨1, _⟩ => rfl
    | ⟨2, _⟩ => rfl
  refine (congrArg _ ei).trans ((Cert.ReferenceIdeal.Row.result_apply x0 x1 x2 x3 x4 x5 x6 x7 x8 (i 0) (i 1) (i 2)).trans ?_)
  exact congrFun (Cert.Row.tail_softRecip (fun k => h0 _) (fun k => h1 _) (fun j e => h2 _) (fun k c => h3 _) _ _ _ _ _).symm (i 2)

theorem algebraic [Cert.Pre_inputs_finite.Facts] : Cert.algebraic_KernelIdeal_ReferenceIdeal_pre_inputs_finite
    (hKernelIdeal := Cert.KernelIdeal.Gen.facts) (hReferenceIdeal := Cert.ReferenceIdeal.Gen.facts) := by
  intro m g m' g' hpre hagree
  refine ⟨fun c => Cert.KernelIdeal.Array.result m c, Cert.KernelIdeal.Array.run m g, ?_⟩
  refine (θ_run _ _ _).mono (fun r h c => ⟨(h c).1.trans ?_, (h c).2⟩) (Cert.ReferenceIdeal.Value.run m' g')
  obtain ⟨a0, a1, a2, a3, a4, a5, a6, a7, a8⟩ := hagree c
  refine (Cert.ReferenceIdeal.Read.val_main_v69_eq _).trans ?_
  show Cert.ReferenceIdeal.Read.val_main_v69 (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8)) = _
  rw [a0, a1, a2, a3, a4, a5, a6, a7, a8]
  exact result_eq _ _ _ _ _ _ _ _ _ (hpre c)

/-- The reference's run keeps its arguments, whatever they hold. -/
theorem reference_frame : Cert.quiescent_ReferenceIdeal (hReferenceIdeal := Cert.ReferenceIdeal.Gen.facts) :=
  fun m g _ => (θ_run _ _ _).mono (fun r h => ⟨fun c => (h c).2, sem_eq_zero_of_no_sems rfl r.2⟩)
    (Cert.ReferenceIdeal.Value.run m g)

theorem reference2_frame : Cert.quiescent_Reference2Ideal (hReference2Ideal := Cert.Reference2Ideal.Gen.facts) :=
  fun m g _ => (θ_run _ _ _).mono (fun r h => ⟨fun c => (h c).2.2.2.2, sem_eq_zero_of_no_sems rfl r.2⟩)
    (Cert.Reference2Ideal.Value.run m g)

theorem reference3_frame : Cert.quiescent_Reference3Ideal (hReference3Ideal := Cert.Reference3Ideal.Gen.facts) :=
  fun m g _ => (θ_run _ _ _).mono (fun r h => ⟨fun c => (h c).2, sem_eq_zero_of_no_sems rfl r.2⟩)
    (Cert.Reference3Ideal.Value.run m g)

/-- The input projection: kernel and reference end with the same four arrays. -/
theorem algebraic2 : Cert.algebraic_Kernel2Ideal_Reference2Ideal
    (hKernel2Ideal := Cert.Kernel2Ideal.Gen.facts) (hReference2Ideal := Cert.Reference2Ideal.Gen.facts) := by
  intro m g m' g' hpre hagree
  refine ⟨fun c => Cert.Kernel2Ideal.Rows.value3 (Cert.Kernel2Ideal.Rows.launched m c), fun c => Cert.Kernel2Ideal.Rows.value4 (Cert.Kernel2Ideal.Rows.launched m c),
    fun c => Cert.Kernel2Ideal.Rows.value5 (Cert.Kernel2Ideal.Rows.launched m c), fun c => Cert.Kernel2Ideal.Rows.value6 (Cert.Kernel2Ideal.Rows.launched m c),
    Cert.Kernel2Ideal.Rows.run m g, ?_⟩
  refine (θ_run _ _ _).mono (fun r h c => ⟨(h c).1.trans ?_, (h c).2.1.trans ?_, (h c).2.2.1.trans ?_, (h c).2.2.2.1.trans ?_, (h c).2.2.2.2⟩)
    (Cert.Reference2Ideal.Value.run m' g')
  · obtain ⟨a0, a1, a2⟩ := hagree c
    refine (Cert.Reference2Ideal.Read.val_main_v37_eq _ _).trans ?_
    show Cert.Reference2Ideal.Read.val_main_v37 (F := Ideal)
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2)) = _
    rw [a0, a1, a2]
    exact Cert.Reference2Ideal.Rows.result3_eq _ _ _
  · obtain ⟨a0, a1, a2⟩ := hagree c
    refine (Cert.Reference2Ideal.Read.val_main_v39_eq _ _).trans ?_
    show Cert.Reference2Ideal.Read.val_main_v39 (F := Ideal)
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2)) = _
    rw [a0, a1, a2]
    exact Cert.Reference2Ideal.Rows.result4_eq _ _ _
  · obtain ⟨a0, a1, a2⟩ := hagree c
    refine (Cert.Reference2Ideal.Read.val_main_v41_eq _ _ _).trans ?_
    show Cert.Reference2Ideal.Read.val_main_v41 (F := Ideal)
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2)) = _
    rw [a0, a1, a2]
    exact Cert.Reference2Ideal.Rows.result5_eq _ _ _
  · obtain ⟨a0, a1, a2⟩ := hagree c
    refine (Cert.Reference2Ideal.Read.val_main_v43_eq _ _).trans ?_
    show Cert.Reference2Ideal.Read.val_main_v43 (F := Ideal)
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2)) = _
    rw [a0, a1, a2]
    exact Cert.Reference2Ideal.Rows.result6_eq _ _ _

/-- The memory's projection: kernel and reference end with the same array. -/
theorem algebraic3 : Cert.algebraic_Kernel3Ideal_Reference3Ideal
    (hKernel3Ideal := Cert.Kernel3Ideal.Gen.facts) (hReference3Ideal := Cert.Reference3Ideal.Gen.facts) := by
  intro m g m' g' hpre hagree
  refine ⟨fun c => Cert.Kernel3Ideal.Rows.result m c, Cert.Kernel3Ideal.Rows.run m g, ?_⟩
  refine (θ_run _ _ _).mono (fun r h c => ⟨(h c).1.trans ?_, (h c).2⟩) (Cert.Reference3Ideal.Value.run m' g')
  obtain ⟨a0, a1, a2⟩ := hagree c
  refine (Cert.Reference3Ideal.Read.val_main_v15_eq _ _ _).trans ?_
  show Cert.Reference3Ideal.Read.val_main_v15 (F := Ideal)
      (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2)) = _
  rw [a0, a1, a2]
  exact Cert.Reference3Ideal.Rows.result_eq _ _ _

/-- The tail of an earlier layer: the kernel's result and the reference's, of the same arguments, index by index. -/
theorem result4_eq [Cert.Pre_inputs_finite.Facts] (x0 : FVec Ideal Cert.Kernel4Ideal.S8x4096x1024 .f32) (x1 : FVec Ideal Cert.Kernel4Ideal.S1024 .f32)
    (x2 : FVec Ideal Cert.Kernel4Ideal.S8x256x2048 .bf16) (x3 x4 : FVec Ideal Cert.Kernel4Ideal.S1024x1024 .f32)
    (x5 : FVec Ideal Cert.Kernel4Ideal.S1024 .f32) (x6 : FVec Ideal Cert.Kernel4Ideal.S1024x4096 .f32)
    (x7 : FVec Ideal Cert.Kernel4Ideal.S4096x1024 .f32) (x8 : FVec Ideal Cert.Kernel4Ideal.S1024 .f32)
    (h : Cert.Pre_inputs_finite.fn (F := Ideal) x0 x1 x2 x3 x4 x5 x6 x7 x8 = fun _ => 1#1) :
    Cert.Reference4Ideal.Read.val_main_v56 (F := Ideal) x0 x1 x2 x3 x4 x5 x6 x7
      = Cert.Kernel4Ideal.Array.value Cert.Row.softRecip x0 x1 x2 x3 x4 x5 x6 x7 := by
  obtain ⟨h0, h1, h2, h3⟩ := Cert.Pre_inputs_finite.reals x0 x1 x2 x3 x4 x5 x6 x7 x8 h
  funext i
  have ei : i = ix3 (i 0) (i 1) (i 2) := by
    funext a
    match a with
    | ⟨0, _⟩ => rfl
    | ⟨1, _⟩ => rfl
    | ⟨2, _⟩ => rfl
  refine (congrArg _ ei).trans ((Cert.Reference4Ideal.Row.result_apply x0 x1 x2 x3 x4 x5 x6 x7 (i 0) (i 1) (i 2)).trans ?_)
  exact congrFun (Cert.Row.inner_softRecip (fun k => h0 _) (fun k => h1 _) (fun j e => h2 _) (fun k c => h3 _) _ _ _ _).symm (i 2)

theorem algebraic4 [Cert.Pre_inputs_finite.Facts] : Cert.algebraic_Kernel4Ideal_Reference4Ideal_pre_inputs_finite
    (hKernel4Ideal := Cert.Kernel4Ideal.Gen.facts) (hReference4Ideal := Cert.Reference4Ideal.Gen.facts) := by
  intro m g m' g' hpre hagree
  refine ⟨fun c => Cert.Kernel4Ideal.Array.result m c, Cert.Kernel4Ideal.Array.run m g, ?_⟩
  refine (θ_run _ _ _).mono (fun r h c => ⟨(h c).1.trans ?_, (h c).2⟩) (Cert.Reference4Ideal.Value.run m' g')
  obtain ⟨a0, a1, a2, a3, a4, a5, a6, a7, a8⟩ := hagree c
  refine (Cert.Reference4Ideal.Read.val_main_v56_eq _ _).trans ?_
  show Cert.Reference4Ideal.Read.val_main_v56 (F := Ideal)
    (m' ((c.tc : Thread Cert.Reference4Ideal.nD Cert.Reference4Ideal.τ).loc Cert.Reference4Ideal.main_arg0))
    (m' ((c.tc : Thread Cert.Reference4Ideal.nD Cert.Reference4Ideal.τ).loc Cert.Reference4Ideal.main_arg1))
    (m' ((c.tc : Thread Cert.Reference4Ideal.nD Cert.Reference4Ideal.τ).loc Cert.Reference4Ideal.main_arg2))
    (m' ((c.tc : Thread Cert.Reference4Ideal.nD Cert.Reference4Ideal.τ).loc Cert.Reference4Ideal.main_arg3))
    (m' ((c.tc : Thread Cert.Reference4Ideal.nD Cert.Reference4Ideal.τ).loc Cert.Reference4Ideal.main_arg4))
    (m' ((c.tc : Thread Cert.Reference4Ideal.nD Cert.Reference4Ideal.τ).loc Cert.Reference4Ideal.main_arg5))
    (m' ((c.tc : Thread Cert.Reference4Ideal.nD Cert.Reference4Ideal.τ).loc Cert.Reference4Ideal.main_arg6))
    (m' ((c.tc : Thread Cert.Reference4Ideal.nD Cert.Reference4Ideal.τ).loc Cert.Reference4Ideal.main_arg7)) = _
  rw [a0, a1, a2, a3, a4, a5, a6, a7]
  exact result4_eq _ _ _ _ _ _ _ _ _ (hpre c)

theorem reference4_frame : Cert.quiescent_Reference4Ideal (hReference4Ideal := Cert.Reference4Ideal.Gen.facts) :=
  fun m g _ => (θ_run _ _ _).mono (fun r h => ⟨fun c => (h c).2, sem_eq_zero_of_no_sems rfl r.2⟩)
    (Cert.Reference4Ideal.Value.run m g)

theorem claim : Cert.Claim := by
  exact ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Pre_inputs_finite.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Kernel2.Gen.frame m ρ, fun m ρ _ => Cert.Kernel2Ideal.Gen.frame m ρ, reference2_frame,
    fun m ρ _ => Cert.Kernel3.Gen.frame m ρ, fun m ρ _ => Cert.Kernel3Ideal.Gen.frame m ρ, reference3_frame,
    fun m ρ _ => Cert.Kernel4.Gen.frame m ρ, fun m ρ _ => Cert.Kernel4Ideal.Gen.frame m ρ, fun m ρ _ => Cert.Kernel4Ideal.Gen.frame m ρ,
    reference4_frame, fun m ρ _ => reference4_frame m ρ trivial,
    fun m ρ _ => Cert.Kernel5.Gen.frame m ρ, fun m ρ _ => Cert.Kernel5Ideal.Gen.frame m ρ,
    trivial, @algebraic Cert.Pre_inputs_finite.facts, trivial, algebraic2, trivial, algebraic3,
    trivial, @algebraic4 Cert.Pre_inputs_finite.facts, trivial⟩

end Cert.Proof

end
